-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_cell" .f32 0x3FD55555#32 ((8388608 / 5033165 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x128 : Shape := ⟨3, ![32, 512, 128]⟩
abbrev S32x512x2 : Shape := ⟨3, ![32, 512, 2]⟩
abbrev S128x256 : Shape := ⟨2, ![128, 256]⟩
abbrev S128 : Shape := ⟨1, ![128]⟩
abbrev S_ : Shape := ⟨0, ![]⟩
abbrev S32x512 : Shape := ⟨2, ![32, 512]⟩
abbrev S32x512x1 : Shape := ⟨3, ![32, 512, 1]⟩
abbrev S16384 : Shape := ⟨1, ![16384]⟩
abbrev S16384x256 : Shape := ⟨2, ![16384, 256]⟩
abbrev S512 : Shape := ⟨1, ![512]⟩
abbrev S16 : Shape := ⟨1, ![16]⟩
abbrev S1x16 : Shape := ⟨2, ![1, 16]⟩
abbrev S256x128 : Shape := ⟨2, ![256, 128]⟩
abbrev S1x128 : Shape := ⟨2, ![1, 128]⟩
abbrev S16384x128 : Shape := ⟨2, ![16384, 128]⟩
abbrev S512x256 : Shape := ⟨2, ![512, 256]⟩
abbrev S512x128 : Shape := ⟨2, ![512, 128]⟩

abbrev nBuf : Table → Nat
  | .hbm => 24
  | .local .tc .vmem => 6
  | .local .scVector .vmem => 3
  | _ => 0

abbrev bufTy : (tb : Table) → Fin (nBuf tb) → BufTy
  | .hbm, ⟨0, _⟩ => ⟨S32x512x128, .f32⟩
  | .hbm, ⟨1, _⟩ => ⟨S32x512x2, .f32⟩
  | .hbm, ⟨2, _⟩ => ⟨S32x512x2, .f32⟩
  | .hbm, ⟨3, _⟩ => ⟨S128x256, .f32⟩
  | .hbm, ⟨4, _⟩ => ⟨S128, .f32⟩
  | .hbm, ⟨5, _⟩ => ⟨S32x512x2, .i1⟩
  | .hbm, ⟨6, _⟩ => ⟨S_, .i1⟩
  | .hbm, ⟨7, _⟩ => ⟨S32x512, .i1⟩
  | .hbm, ⟨8, _⟩ => ⟨S32x512x1, .i1⟩
  | .hbm, ⟨9, _⟩ => ⟨S_, .f32⟩
  | .hbm, ⟨10, _⟩ => ⟨S_, .f32⟩
  | .hbm, ⟨11, _⟩ => ⟨S32x512x2, .i1⟩
  | .hbm, ⟨12, _⟩ => ⟨S32x512x2, .f32⟩
  | .hbm, ⟨13, _⟩ => ⟨S32x512x2, .f32⟩
  | .hbm, ⟨14, _⟩ => ⟨S32x512x1, .f32⟩
  | .hbm, ⟨15, _⟩ => ⟨S32x512, .f32⟩
  | .hbm, ⟨16, _⟩ => ⟨S16384, .f32⟩
  | .hbm, ⟨17, _⟩ => ⟨S32x512x1, .f32⟩
  | .hbm, ⟨18, _⟩ => ⟨S32x512, .f32⟩
  | .hbm, ⟨19, _⟩ => ⟨S16384, .f32⟩
  | .hbm, ⟨20, _⟩ => ⟨S16384x256, .f32⟩
  | .hbm, ⟨21, _⟩ => ⟨S256x128, .f32⟩
  | .hbm, ⟨22, _⟩ => ⟨S1x128, .f32⟩
  | .hbm, ⟨23, _⟩ => ⟨S16384x128, .f32⟩
  | .local .tc .vmem, ⟨0, _⟩ => ⟨S512x256, .f32⟩
  | .local .tc .vmem, ⟨1, _⟩ => ⟨S512x256, .f32⟩
  | .local .tc .vmem, ⟨2, _⟩ => ⟨S256x128, .f32⟩
  | .local .tc .vmem, ⟨3, _⟩ => ⟨S1x128, .f32⟩
  | .local .tc .vmem, ⟨4, _⟩ => ⟨S512x128, .f32⟩
  | .local .tc .vmem, ⟨5, _⟩ => ⟨S512x128, .f32⟩
  | .local .scVector .vmem, ⟨0, _⟩ => ⟨S512, .f32⟩
  | .local .scVector .vmem, ⟨1, _⟩ => ⟨S512, .f32⟩
  | .local .scVector .vmem, ⟨2, _⟩ => ⟨S128x256, .f32⟩
  | _, _ => ⟨S32x512x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v6_scv : Ref sig .scVector := ⟨.hbm, 16, rfl⟩
abbrev main_v9_scv : Ref sig .scVector := ⟨.hbm, 19, rfl⟩
abbrev main_v10_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off2 (k0_t1 : Fin k0_t1_loop.trips) : Fin 1 → Nat :=
  let c0_i32_36 : BitVec 32 := 0#32
  let c0_i32 : BitVec 32 := 0#32
  let c1_i32 : BitVec 32 := 1#32
  let arg8 : BitVec 32 := Scf.iv c0_i32 c1_i32 k0_t1
  let c1_i32_35 : BitVec 32 := 1#32
  let v19 : BitVec 32 := Scalar.muli arg8 c1_i32_35
  let v20 : BitVec 32 := Scalar.addi c0_i32_36 v19
  let c16_i32 : BitVec 32 := 16#32
  let v21 : BitVec 32 := Scalar.muli v20 c16_i32
  let v22 : Index := Scalar.indexCast v21
  ![v22.toNat]
@[reducible] def k0_t2_loop : Scf.Loop 32 :=
  let c0_i32_2 : BitVec 32 := 0#32
  let c128_i32 : BitVec 32 := 128#32
  let v7 : BitVec 32 := Scalar.addi c0_i32_2 c128_i32
  let c1_i32_3 : BitVec 32 := 1#32
  ⟨c0_i32_2, v7, c1_i32_3⟩
def k0_off3 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v21 : Index := Scalar.indexCast v20
  let c0 : Index := 0#32
  ![v21.toNat, 0]
def k0_off4 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v23 : Index := Scalar.indexCast v20
  let c16 : Index := 16#32
  ![v23.toNat, 16]
def k0_off5 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v25 : Index := Scalar.indexCast v20
  let c32 : Index := 32#32
  ![v25.toNat, 32]
def k0_off6 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v27 : Index := Scalar.indexCast v20
  let c48 : Index := 48#32
  ![v27.toNat, 48]
def k0_off7 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v29 : Index := Scalar.indexCast v20
  let c64 : Index := 64#32
  ![v29.toNat, 64]
def k0_off8 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v31 : Index := Scalar.indexCast v20
  let c80 : Index := 80#32
  ![v31.toNat, 80]
def k0_off9 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v33 : Index := Scalar.indexCast v20
  let c96 : Index := 96#32
  ![v33.toNat, 96]
def k0_off10 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v35 : Index := Scalar.indexCast v20
  let c112 : Index := 112#32
  ![v35.toNat, 112]
def k0_off11 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v37 : Index := Scalar.indexCast v20
  let c128 : Index := 128#32
  ![v37.toNat, 128]
def k0_off12 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v39 : Index := Scalar.indexCast v20
  let c144 : Index := 144#32
  ![v39.toNat, 144]
def k0_off13 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v41 : Index := Scalar.indexCast v20
  let c160 : Index := 160#32
  ![v41.toNat, 160]
def k0_off14 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v43 : Index := Scalar.indexCast v20
  let c176 : Index := 176#32
  ![v43.toNat, 176]
def k0_off15 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v45 : Index := Scalar.indexCast v20
  let c192 : Index := 192#32
  ![v45.toNat, 192]
def k0_off16 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v47 : Index := Scalar.indexCast v20
  let c208 : Index := 208#32
  ![v47.toNat, 208]
def k0_off17 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v49 : Index := Scalar.indexCast v20
  let c224 : Index := 224#32
  ![v49.toNat, 224]
def k0_off18 (k0_t2 : Fin k0_t2_loop.trips) : Fin 2 → Nat :=
  let c0_i32_36 : BitVec 32 := 0#32
  let c0_i32_2 : BitVec 32 := 0#32
  let c1_i32_3 : BitVec 32 := 1#32
  let arg8 : BitVec 32 := Scf.iv c0_i32_2 c1_i32_3 k0_t2
  let c1_i32_35 : BitVec 32 := 1#32
  let v19 : BitVec 32 := Scalar.muli arg8 c1_i32_35
  let v20 : BitVec 32 := Scalar.addi c0_i32_36 v19
  let v51 : Index := Scalar.indexCast v20
  let c240 : Index := 240#32
  ![v51.toNat, 240]
@[reducible] def k0_t3_loop : Scf.Loop 32 :=
  let c0_i32_5 : BitVec 32 := 0#32
  let c128_i32_6 : BitVec 32 := 128#32
  let v8 : BitVec 32 := Scalar.addi c0_i32_5 c128_i32_6
  let c1_i32_7 : BitVec 32 := 1#32
  ⟨c0_i32_5, v8, c1_i32_7⟩

def k0_chk1 (v22 : IVec S16 32) : Prop :=
  (∀ a x, ((![v22] : Fin 1 → IVec S16 32) a x).toNat < S512.size a) ∧
  (∀ a x, ((![v22] : Fin 1 → IVec S16 32) a x).toNat < S512.size a)
theorem k0_idx1_inb : ∀ (v22 : IVec S16 32) (k0_hw1 : k0_chk1 v22), ∀ a x, ((![v22] : Fin 1 → IVec S16 32) a x).toNat < S512.size a := fun v22 k0_hw1 => k0_hw1.1
theorem k0_idx2_inb : ∀ (v22 : IVec S16 32) (k0_hw1 : k0_chk1 v22), ∀ a x, ((![v22] : Fin 1 → IVec S16 32) a x).toNat < S512.size a := fun v22 k0_hw1 => k0_hw1.2

def k0_chk2 (v23 : IVec S16 32) (v56 : IVec S16 32) : Prop :=
  (∀ a x, ((![v23, v56] : Fin 2 → IVec S16 32) a x).toNat < S128x256.size a)
theorem k0_idx3_inb : ∀ (v23 : IVec S16 32) (v56 : IVec S16 32) (k0_hw2 : k0_chk2 v23 v56), ∀ a x, ((![v23, v56] : Fin 2 → IVec S16 32) a x).toNat < S128x256.size a := fun v23 v56 k0_hw2 => k0_hw2

def k0_chk3 (v23 : IVec S16 32) (v79 : IVec S16 32) : Prop :=
  (∀ a x, ((![v23, v79] : Fin 2 → IVec S16 32) a x).toNat < S128x256.size a)
theorem k0_idx4_inb : ∀ (v23 : IVec S16 32) (v79 : IVec S16 32) (k0_hw3 : k0_chk3 v23 v79), ∀ a x, ((![v23, v79] : Fin 2 → IVec S16 32) a x).toNat < S128x256.size a := fun v23 v79 k0_hw3 => k0_hw3

def k0_chk4 (v23 : IVec S16 32) (v102 : IVec S16 32) : Prop :=
  (∀ a x, ((![v23, v102] : Fin 2 → IVec S16 32) a x).toNat < S128x256.size a)
theorem k0_idx5_inb : ∀ (v23 : IVec S16 32) (v102 : IVec S16 32) (k0_hw4 : k0_chk4 v23 v102), ∀ a x, ((![v23, v102] : Fin 2 → IVec S16 32) a x).toNat < S128x256.size a := fun v23 v102 k0_hw4 => k0_hw4

def k0_chk5 (v23 : IVec S16 32) (v125 : IVec S16 32) : Prop :=
  (∀ a x, ((![v23, v125] : Fin 2 → IVec S16 32) a x).toNat < S128x256.size a)
theorem k0_idx6_inb : ∀ (v23 : IVec S16 32) (v125 : IVec S16 32) (k0_hw5 : k0_chk5 v23 v125), ∀ a x, ((![v23, v125] : Fin 2 → IVec S16 32) a x).toNat < S128x256.size a := fun v23 v125 k0_hw5 => k0_hw5

def k0_chk6 (v23 : IVec S16 32) (v148 : IVec S16 32) : Prop :=
  (∀ a x, ((![v23, v148] : Fin 2 → IVec S16 32) a x).toNat < S128x256.size a)
theorem k0_idx7_inb : ∀ (v23 : IVec S16 32) (v148 : IVec S16 32) (k0_hw6 : k0_chk6 v23 v148), ∀ a x, ((![v23, v148] : Fin 2 → IVec S16 32) a x).toNat < S128x256.size a := fun v23 v148 k0_hw6 => k0_hw6

def k0_chk7 (v23 : IVec S16 32) (v171 : IVec S16 32) : Prop :=
  (∀ a x, ((![v23, v171] : Fin 2 → IVec S16 32) a x).toNat < S128x256.size a)
theorem k0_idx8_inb : ∀ (v23 : IVec S16 32) (v171 : IVec S16 32) (k0_hw7 : k0_chk7 v23 v171), ∀ a x, ((![v23, v171] : Fin 2 → IVec S16 32) a x).toNat < S128x256.size a := fun v23 v171 k0_hw7 => k0_hw7

def k0_chk8 (v23 : IVec S16 32) (v194 : IVec S16 32) : Prop :=
  (∀ a x, ((![v23, v194] : Fin 2 → IVec S16 32) a x).toNat < S128x256.size a)
theorem k0_idx9_inb : ∀ (v23 : IVec S16 32) (v194 : IVec S16 32) (k0_hw8 : k0_chk8 v23 v194), ∀ a x, ((![v23, v194] : Fin 2 → IVec S16 32) a x).toNat < S128x256.size a := fun v23 v194 k0_hw8 => k0_hw8

def k0_chk9 (v23 : IVec S16 32) (v217 : IVec S16 32) : Prop :=
  (∀ a x, ((![v23, v217] : Fin 2 → IVec S16 32) a x).toNat < S128x256.size a)
theorem k0_idx10_inb : ∀ (v23 : IVec S16 32) (v217 : IVec S16 32) (k0_hw9 : k0_chk9 v23 v217), ∀ a x, ((![v23, v217] : Fin 2 → IVec S16 32) a x).toNat < S128x256.size a := fun v23 v217 k0_hw9 => k0_hw9

def k0_chk10 (v23 : IVec S16 32) (v240 : IVec S16 32) : Prop :=
  (∀ a x, ((![v23, v240] : Fin 2 → IVec S16 32) a x).toNat < S128x256.size a)
theorem k0_idx11_inb : ∀ (v23 : IVec S16 32) (v240 : IVec S16 32) (k0_hw10 : k0_chk10 v23 v240), ∀ a x, ((![v23, v240] : Fin 2 → IVec S16 32) a x).toNat < S128x256.size a := fun v23 v240 k0_hw10 => k0_hw10

def k0_chk11 (v23 : IVec S16 32) (v263 : IVec S16 32) : Prop :=
  (∀ a x, ((![v23, v263] : Fin 2 → IVec S16 32) a x).toNat < S128x256.size a)
theorem k0_idx12_inb : ∀ (v23 : IVec S16 32) (v263 : IVec S16 32) (k0_hw11 : k0_chk11 v23 v263), ∀ a x, ((![v23, v263] : Fin 2 → IVec S16 32) a x).toNat < S128x256.size a := fun v23 v263 k0_hw11 => k0_hw11

def k0_chk12 (v23 : IVec S16 32) (v286 : IVec S16 32) : Prop :=
  (∀ a x, ((![v23, v286] : Fin 2 → IVec S16 32) a x).toNat < S128x256.size a)
theorem k0_idx13_inb : ∀ (v23 : IVec S16 32) (v286 : IVec S16 32) (k0_hw12 : k0_chk12 v23 v286), ∀ a x, ((![v23, v286] : Fin 2 → IVec S16 32) a x).toNat < S128x256.size a := fun v23 v286 k0_hw12 => k0_hw12

def k0_chk13 (v23 : IVec S16 32) (v309 : IVec S16 32) : Prop :=
  (∀ a x, ((![v23, v309] : Fin 2 → IVec S16 32) a x).toNat < S128x256.size a)
theorem k0_idx14_inb : ∀ (v23 : IVec S16 32) (v309 : IVec S16 32) (k0_hw13 : k0_chk13 v23 v309), ∀ a x, ((![v23, v309] : Fin 2 → IVec S16 32) a x).toNat < S128x256.size a := fun v23 v309 k0_hw13 => k0_hw13

def k0_chk14 (v23 : IVec S16 32) (v332 : IVec S16 32) : Prop :=
  (∀ a x, ((![v23, v332] : Fin 2 → IVec S16 32) a x).toNat < S128x256.size a)
theorem k0_idx15_inb : ∀ (v23 : IVec S16 32) (v332 : IVec S16 32) (k0_hw14 : k0_chk14 v23 v332), ∀ a x, ((![v23, v332] : Fin 2 → IVec S16 32) a x).toNat < S128x256.size a := fun v23 v332 k0_hw14 => k0_hw14

def k0_chk15 (v23 : IVec S16 32) (v355 : IVec S16 32) : Prop :=
  (∀ a x, ((![v23, v355] : Fin 2 → IVec S16 32) a x).toNat < S128x256.size a)
theorem k0_idx16_inb : ∀ (v23 : IVec S16 32) (v355 : IVec S16 32) (k0_hw15 : k0_chk15 v23 v355), ∀ a x, ((![v23, v355] : Fin 2 → IVec S16 32) a x).toNat < S128x256.size a := fun v23 v355 k0_hw15 => k0_hw15

def k0_chk16 (v23 : IVec S16 32) (v378 : IVec S16 32) : Prop :=
  (∀ a x, ((![v23, v378] : Fin 2 → IVec S16 32) a x).toNat < S128x256.size a)
theorem k0_idx17_inb : ∀ (v23 : IVec S16 32) (v378 : IVec S16 32) (k0_hw16 : k0_chk16 v23 v378), ∀ a x, ((![v23, v378] : Fin 2 → IVec S16 32) a x).toNat < S128x256.size a := fun v23 v378 k0_hw16 => k0_hw16

def k0_chk17 (v23 : IVec S16 32) (v401 : IVec S16 32) : Prop :=
  (∀ a x, ((![v23, v401] : Fin 2 → IVec S16 32) a x).toNat < S128x256.size a)
theorem k0_idx18_inb : ∀ (v23 : IVec S16 32) (v401 : IVec S16 32) (k0_hw17 : k0_chk17 v23 v401), ∀ a x, ((![v23, v401] : Fin 2 → IVec S16 32) a x).toNat < S128x256.size a := fun v23 v401 k0_hw17 => k0_hw17

def k0_chk18 (v23 : IVec S16 32) (v424 : IVec S16 32) : Prop :=
  (∀ a x, ((![v23, v424] : Fin 2 → IVec S16 32) a x).toNat < S128x256.size a)
theorem k0_idx19_inb : ∀ (v23 : IVec S16 32) (v424 : IVec S16 32) (k0_hw18 : k0_chk18 v23 v424), ∀ a x, ((![v23, v424] : Fin 2 → IVec S16 32) a x).toNat < S128x256.size a := fun v23 v424 k0_hw18 => k0_hw18

def k0_chk19 (v23 : IVec S16 32) (v447 : IVec S16 32) : Prop :=
  (∀ a x, ((![v23, v447] : Fin 2 → IVec S16 32) a x).toNat < S128x256.size a)
theorem k0_idx20_inb : ∀ (v23 : IVec S16 32) (v447 : IVec S16 32) (k0_hw19 : k0_chk19 v23 v447), ∀ a x, ((![v23, v447] : Fin 2 → IVec S16 32) a x).toNat < S128x256.size a := fun v23 v447 k0_hw19 => k0_hw19

def k0_chk20 (v23 : IVec S16 32) (v470 : IVec S16 32) : Prop :=
  (∀ a x, ((![v23, v470] : Fin 2 → IVec S16 32) a x).toNat < S128x256.size a)
theorem k0_idx21_inb : ∀ (v23 : IVec S16 32) (v470 : IVec S16 32) (k0_hw20 : k0_chk20 v23 v470), ∀ a x, ((![v23, v470] : Fin 2 → IVec S16 32) a x).toNat < S128x256.size a := fun v23 v470 k0_hw20 => k0_hw20

def k0_chk21 (v23 : IVec S16 32) (v493 : IVec S16 32) : Prop :=
  (∀ a x, ((![v23, v493] : Fin 2 → IVec S16 32) a x).toNat < S128x256.size a)
theorem k0_idx22_inb : ∀ (v23 : IVec S16 32) (v493 : IVec S16 32) (k0_hw21 : k0_chk21 v23 v493), ∀ a x, ((![v23, v493] : Fin 2 → IVec S16 32) a x).toNat < S128x256.size a := fun v23 v493 k0_hw21 => k0_hw21

def k0_chk22 (v23 : IVec S16 32) (v516 : IVec S16 32) : Prop :=
  (∀ a x, ((![v23, v516] : Fin 2 → IVec S16 32) a x).toNat < S128x256.size a)
theorem k0_idx23_inb : ∀ (v23 : IVec S16 32) (v516 : IVec S16 32) (k0_hw22 : k0_chk22 v23 v516), ∀ a x, ((![v23, v516] : Fin 2 → IVec S16 32) a x).toNat < S128x256.size a := fun v23 v516 k0_hw22 => k0_hw22

def k0_chk23 (v23 : IVec S16 32) (v539 : IVec S16 32) : Prop :=
  (∀ a x, ((![v23, v539] : Fin 2 → IVec S16 32) a x).toNat < S128x256.size a)
theorem k0_idx24_inb : ∀ (v23 : IVec S16 32) (v539 : IVec S16 32) (k0_hw23 : k0_chk23 v23 v539), ∀ a x, ((![v23, v539] : Fin 2 → IVec S16 32) a x).toNat < S128x256.size a := fun v23 v539 k0_hw23 => k0_hw23

def k0_chk24 (v23 : IVec S16 32) (v562 : IVec S16 32) : Prop :=
  (∀ a x, ((![v23, v562] : Fin 2 → IVec S16 32) a x).toNat < S128x256.size a)
theorem k0_idx25_inb : ∀ (v23 : IVec S16 32) (v562 : IVec S16 32) (k0_hw24 : k0_chk24 v23 v562), ∀ a x, ((![v23, v562] : Fin 2 → IVec S16 32) a x).toNat < S128x256.size a := fun v23 v562 k0_hw24 => k0_hw24

def k0_chk25 (v23 : IVec S16 32) (v585 : IVec S16 32) : Prop :=
  (∀ a x, ((![v23, v585] : Fin 2 → IVec S16 32) a x).toNat < S128x256.size a)
theorem k0_idx26_inb : ∀ (v23 : IVec S16 32) (v585 : IVec S16 32) (k0_hw25 : k0_chk25 v23 v585), ∀ a x, ((![v23, v585] : Fin 2 → IVec S16 32) a x).toNat < S128x256.size a := fun v23 v585 k0_hw25 => k0_hw25

def k0_chk26 (v23 : IVec S16 32) (v608 : IVec S16 32) : Prop :=
  (∀ a x, ((![v23, v608] : Fin 2 → IVec S16 32) a x).toNat < S128x256.size a)
theorem k0_idx27_inb : ∀ (v23 : IVec S16 32) (v608 : IVec S16 32) (k0_hw26 : k0_chk26 v23 v608), ∀ a x, ((![v23, v608] : Fin 2 → IVec S16 32) a x).toNat < S128x256.size a := fun v23 v608 k0_hw26 => k0_hw26

def k0_chk27 (v23 : IVec S16 32) (v631 : IVec S16 32) : Prop :=
  (∀ a x, ((![v23, v631] : Fin 2 → IVec S16 32) a x).toNat < S128x256.size a)
theorem k0_idx28_inb : ∀ (v23 : IVec S16 32) (v631 : IVec S16 32) (k0_hw27 : k0_chk27 v23 v631), ∀ a x, ((![v23, v631] : Fin 2 → IVec S16 32) a x).toNat < S128x256.size a := fun v23 v631 k0_hw27 => k0_hw27

def k0_chk28 (v23 : IVec S16 32) (v654 : IVec S16 32) : Prop :=
  (∀ a x, ((![v23, v654] : Fin 2 → IVec S16 32) a x).toNat < S128x256.size a)
theorem k0_idx29_inb : ∀ (v23 : IVec S16 32) (v654 : IVec S16 32) (k0_hw28 : k0_chk28 v23 v654), ∀ a x, ((![v23, v654] : Fin 2 → IVec S16 32) a x).toNat < S128x256.size a := fun v23 v654 k0_hw28 => k0_hw28

def k0_chk29 (v23 : IVec S16 32) (v677 : IVec S16 32) : Prop :=
  (∀ a x, ((![v23, v677] : Fin 2 → IVec S16 32) a x).toNat < S128x256.size a)
theorem k0_idx30_inb : ∀ (v23 : IVec S16 32) (v677 : IVec S16 32) (k0_hw29 : k0_chk29 v23 v677), ∀ a x, ((![v23, v677] : Fin 2 → IVec S16 32) a x).toNat < S128x256.size a := fun v23 v677 k0_hw29 => k0_hw29

def k0_chk30 (v23 : IVec S16 32) (v700 : IVec S16 32) : Prop :=
  (∀ a x, ((![v23, v700] : Fin 2 → IVec S16 32) a x).toNat < S128x256.size a)
theorem k0_idx31_inb : ∀ (v23 : IVec S16 32) (v700 : IVec S16 32) (k0_hw30 : k0_chk30 v23 v700), ∀ a x, ((![v23, v700] : Fin 2 → IVec S16 32) a x).toNat < S128x256.size a := fun v23 v700 k0_hw30 => k0_hw30

def k0_chk31 (v23 : IVec S16 32) (v723 : IVec S16 32) : Prop :=
  (∀ a x, ((![v23, v723] : Fin 2 → IVec S16 32) a x).toNat < S128x256.size a)
theorem k0_idx32_inb : ∀ (v23 : IVec S16 32) (v723 : IVec S16 32) (k0_hw31 : k0_chk31 v23 v723), ∀ a x, ((![v23, v723] : Fin 2 → IVec S16 32) a x).toNat < S128x256.size a := fun v23 v723 k0_hw31 => k0_hw31

def k0_chk32 (v23 : IVec S16 32) (v746 : IVec S16 32) : Prop :=
  (∀ a x, ((![v23, v746] : Fin 2 → IVec S16 32) a x).toNat < S128x256.size a)
theorem k0_idx33_inb : ∀ (v23 : IVec S16 32) (v746 : IVec S16 32) (k0_hw32 : k0_chk32 v23 v746), ∀ a x, ((![v23, v746] : Fin 2 → IVec S16 32) a x).toNat < S128x256.size a := fun v23 v746 k0_hw32 => k0_hw32

def k0_chk33 (v23 : IVec S16 32) (v769 : IVec S16 32) : Prop :=
  (∀ a x, ((![v23, v769] : Fin 2 → IVec S16 32) a x).toNat < S128x256.size a)
theorem k0_idx34_inb : ∀ (v23 : IVec S16 32) (v769 : IVec S16 32) (k0_hw33 : k0_chk33 v23 v769), ∀ a x, ((![v23, v769] : Fin 2 → IVec S16 32) a x).toNat < S128x256.size a := fun v23 v769 k0_hw33 => k0_hw33
def k0_off19 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_9
  let c0_i32_35_r2 : BitVec 32 := 0#32
  ![v9.toNat, 0]
@[reducible] def k0_t4_loop : Scf.Loop 32 :=
  let c0_i32_10 : BitVec 32 := 0#32
  let c128_i32_11 : BitVec 32 := 128#32
  let v10 : BitVec 32 := Scalar.addi c0_i32_10 c128_i32_11
  let c1_i32_12 : BitVec 32 := 1#32
  ⟨c0_i32_10, v10, c1_i32_12⟩
def k0_off20 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v21 : Index := Scalar.indexCast v20
  let c0 : Index := 0#32
  ![v21.toNat, 0]
def k0_off21 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v23 : Index := Scalar.indexCast v20
  let c16 : Index := 16#32
  ![v23.toNat, 16]
def k0_off22 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v25 : Index := Scalar.indexCast v20
  let c32 : Index := 32#32
  ![v25.toNat, 32]
def k0_off23 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v27 : Index := Scalar.indexCast v20
  let c48 : Index := 48#32
  ![v27.toNat, 48]
def k0_off24 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v29 : Index := Scalar.indexCast v20
  let c64 : Index := 64#32
  ![v29.toNat, 64]
def k0_off25 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v31 : Index := Scalar.indexCast v20
  let c80 : Index := 80#32
  ![v31.toNat, 80]
def k0_off26 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v33 : Index := Scalar.indexCast v20
  let c96 : Index := 96#32
  ![v33.toNat, 96]
def k0_off27 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v35 : Index := Scalar.indexCast v20
  let c112 : Index := 112#32
  ![v35.toNat, 112]
def k0_off28 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v37 : Index := Scalar.indexCast v20
  let c128 : Index := 128#32
  ![v37.toNat, 128]
def k0_off29 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v39 : Index := Scalar.indexCast v20
  let c144 : Index := 144#32
  ![v39.toNat, 144]
def k0_off30 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v41 : Index := Scalar.indexCast v20
  let c160 : Index := 160#32
  ![v41.toNat, 160]
def k0_off31 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v43 : Index := Scalar.indexCast v20
  let c176 : Index := 176#32
  ![v43.toNat, 176]
def k0_off32 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v45 : Index := Scalar.indexCast v20
  let c192 : Index := 192#32
  ![v45.toNat, 192]
def k0_off33 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v47 : Index := Scalar.indexCast v20
  let c208 : Index := 208#32
  ![v47.toNat, 208]
def k0_off34 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v49 : Index := Scalar.indexCast v20
  let c224 : Index := 224#32
  ![v49.toNat, 224]
def k0_off35 (k0_t4 : Fin k0_t4_loop.trips) : Fin 2 → Nat :=
  let c0_i32_36 : BitVec 32 := 0#32
  let c0_i32_10 : BitVec 32 := 0#32
  let c1_i32_12 : BitVec 32 := 1#32
  let arg8 : BitVec 32 := Scf.iv c0_i32_10 c1_i32_12 k0_t4
  let c1_i32_35 : BitVec 32 := 1#32
  let v19 : BitVec 32 := Scalar.muli arg8 c1_i32_35
  let v20 : BitVec 32 := Scalar.addi c0_i32_36 v19
  let v51 : Index := Scalar.indexCast v20
  let c240 : Index := 240#32
  ![v51.toNat, 240]
@[reducible] def k0_t5_loop : Scf.Loop 32 :=
  let c0_i32_14 : BitVec 32 := 0#32
  let c128_i32_15 : BitVec 32 := 128#32
  let v11 : BitVec 32 := Scalar.addi c0_i32_14 c128_i32_15
  let c1_i32_16 : BitVec 32 := 1#32
  ⟨c0_i32_14, v11, c1_i32_16⟩

def k0_chk34 (v22 : IVec S16 32) : Prop :=
  (∀ a x, ((![v22] : Fin 1 → IVec S16 32) a x).toNat < S512.size a) ∧
  (∀ a x, ((![v22] : Fin 1 → IVec S16 32) a x).toNat < S512.size a)
theorem k0_idx35_inb : ∀ (v22 : IVec S16 32) (k0_hw34 : k0_chk34 v22), ∀ a x, ((![v22] : Fin 1 → IVec S16 32) a x).toNat < S512.size a := fun v22 k0_hw34 => k0_hw34.1
theorem k0_idx36_inb : ∀ (v22 : IVec S16 32) (k0_hw34 : k0_chk34 v22), ∀ a x, ((![v22] : Fin 1 → IVec S16 32) a x).toNat < S512.size a := fun v22 k0_hw34 => k0_hw34.2

def k0_chk35 (v23 : IVec S16 32) (v56 : IVec S16 32) : Prop :=
  (∀ a x, ((![v23, v56] : Fin 2 → IVec S16 32) a x).toNat < S128x256.size a)
theorem k0_idx37_inb : ∀ (v23 : IVec S16 32) (v56 : IVec S16 32) (k0_hw35 : k0_chk35 v23 v56), ∀ a x, ((![v23, v56] : Fin 2 → IVec S16 32) a x).toNat < S128x256.size a := fun v23 v56 k0_hw35 => k0_hw35

def k0_chk36 (v23 : IVec S16 32) (v79 : IVec S16 32) : Prop :=
  (∀ a x, ((![v23, v79] : Fin 2 → IVec S16 32) a x).toNat < S128x256.size a)
theorem k0_idx38_inb : ∀ (v23 : IVec S16 32) (v79 : IVec S16 32) (k0_hw36 : k0_chk36 v23 v79), ∀ a x, ((![v23, v79] : Fin 2 → IVec S16 32) a x).toNat < S128x256.size a := fun v23 v79 k0_hw36 => k0_hw36

def k0_chk37 (v23 : IVec S16 32) (v102 : IVec S16 32) : Prop :=
  (∀ a x, ((![v23, v102] : Fin 2 → IVec S16 32) a x).toNat < S128x256.size a)
theorem k0_idx39_inb : ∀ (v23 : IVec S16 32) (v102 : IVec S16 32) (k0_hw37 : k0_chk37 v23 v102), ∀ a x, ((![v23, v102] : Fin 2 → IVec S16 32) a x).toNat < S128x256.size a := fun v23 v102 k0_hw37 => k0_hw37

def k0_chk38 (v23 : IVec S16 32) (v125 : IVec S16 32) : Prop :=
  (∀ a x, ((![v23, v125] : Fin 2 → IVec S16 32) a x).toNat < S128x256.size a)
theorem k0_idx40_inb : ∀ (v23 : IVec S16 32) (v125 : IVec S16 32) (k0_hw38 : k0_chk38 v23 v125), ∀ a x, ((![v23, v125] : Fin 2 → IVec S16 32) a x).toNat < S128x256.size a := fun v23 v125 k0_hw38 => k0_hw38

def k0_chk39 (v23 : IVec S16 32) (v148 : IVec S16 32) : Prop :=
  (∀ a x, ((![v23, v148] : Fin 2 → IVec S16 32) a x).toNat < S128x256.size a)
theorem k0_idx41_inb : ∀ (v23 : IVec S16 32) (v148 : IVec S16 32) (k0_hw39 : k0_chk39 v23 v148), ∀ a x, ((![v23, v148] : Fin 2 → IVec S16 32) a x).toNat < S128x256.size a := fun v23 v148 k0_hw39 => k0_hw39

def k0_chk40 (v23 : IVec S16 32) (v171 : IVec S16 32) : Prop :=
  (∀ a x, ((![v23, v171] : Fin 2 → IVec S16 32) a x).toNat < S128x256.size a)
theorem k0_idx42_inb : ∀ (v23 : IVec S16 32) (v171 : IVec S16 32) (k0_hw40 : k0_chk40 v23 v171), ∀ a x, ((![v23, v171] : Fin 2 → IVec S16 32) a x).toNat < S128x256.size a := fun v23 v171 k0_hw40 => k0_hw40

def k0_chk41 (v23 : IVec S16 32) (v194 : IVec S16 32) : Prop :=
  (∀ a x, ((![v23, v194] : Fin 2 → IVec S16 32) a x).toNat < S128x256.size a)
theorem k0_idx43_inb : ∀ (v23 : IVec S16 32) (v194 : IVec S16 32) (k0_hw41 : k0_chk41 v23 v194), ∀ a x, ((![v23, v194] : Fin 2 → IVec S16 32) a x).toNat < S128x256.size a := fun v23 v194 k0_hw41 => k0_hw41

def k0_chk42 (v23 : IVec S16 32) (v217 : IVec S16 32) : Prop :=
  (∀ a x, ((![v23, v217] : Fin 2 → IVec S16 32) a x).toNat < S128x256.size a)
theorem k0_idx44_inb : ∀ (v23 : IVec S16 32) (v217 : IVec S16 32) (k0_hw42 : k0_chk42 v23 v217), ∀ a x, ((![v23, v217] : Fin 2 → IVec S16 32) a x).toNat < S128x256.size a := fun v23 v217 k0_hw42 => k0_hw42

def k0_chk43 (v23 : IVec S16 32) (v240 : IVec S16 32) : Prop :=
  (∀ a x, ((![v23, v240] : Fin 2 → IVec S16 32) a x).toNat < S128x256.size a)
theorem k0_idx45_inb : ∀ (v23 : IVec S16 32) (v240 : IVec S16 32) (k0_hw43 : k0_chk43 v23 v240), ∀ a x, ((![v23, v240] : Fin 2 → IVec S16 32) a x).toNat < S128x256.size a := fun v23 v240 k0_hw43 => k0_hw43

def k0_chk44 (v23 : IVec S16 32) (v263 : IVec S16 32) : Prop :=
  (∀ a x, ((![v23, v263] : Fin 2 → IVec S16 32) a x).toNat < S128x256.size a)
theorem k0_idx46_inb : ∀ (v23 : IVec S16 32) (v263 : IVec S16 32) (k0_hw44 : k0_chk44 v23 v263), ∀ a x, ((![v23, v263] : Fin 2 → IVec S16 32) a x).toNat < S128x256.size a := fun v23 v263 k0_hw44 => k0_hw44

def k0_chk45 (v23 : IVec S16 32) (v286 : IVec S16 32) : Prop :=
  (∀ a x, ((![v23, v286] : Fin 2 → IVec S16 32) a x).toNat < S128x256.size a)
theorem k0_idx47_inb : ∀ (v23 : IVec S16 32) (v286 : IVec S16 32) (k0_hw45 : k0_chk45 v23 v286), ∀ a x, ((![v23, v286] : Fin 2 → IVec S16 32) a x).toNat < S128x256.size a := fun v23 v286 k0_hw45 => k0_hw45

def k0_chk46 (v23 : IVec S16 32) (v309 : IVec S16 32) : Prop :=
  (∀ a x, ((![v23, v309] : Fin 2 → IVec S16 32) a x).toNat < S128x256.size a)
theorem k0_idx48_inb : ∀ (v23 : IVec S16 32) (v309 : IVec S16 32) (k0_hw46 : k0_chk46 v23 v309), ∀ a x, ((![v23, v309] : Fin 2 → IVec S16 32) a x).toNat < S128x256.size a := fun v23 v309 k0_hw46 => k0_hw46

def k0_chk47 (v23 : IVec S16 32) (v332 : IVec S16 32) : Prop :=
  (∀ a x, ((![v23, v332] : Fin 2 → IVec S16 32) a x).toNat < S128x256.size a)
theorem k0_idx49_inb : ∀ (v23 : IVec S16 32) (v332 : IVec S16 32) (k0_hw47 : k0_chk47 v23 v332), ∀ a x, ((![v23, v332] : Fin 2 → IVec S16 32) a x).toNat < S128x256.size a := fun v23 v332 k0_hw47 => k0_hw47

def k0_chk48 (v23 : IVec S16 32) (v355 : IVec S16 32) : Prop :=
  (∀ a x, ((![v23, v355] : Fin 2 → IVec S16 32) a x).toNat < S128x256.size a)
theorem k0_idx50_inb : ∀ (v23 : IVec S16 32) (v355 : IVec S16 32) (k0_hw48 : k0_chk48 v23 v355), ∀ a x, ((![v23, v355] : Fin 2 → IVec S16 32) a x).toNat < S128x256.size a := fun v23 v355 k0_hw48 => k0_hw48

def k0_chk49 (v23 : IVec S16 32) (v378 : IVec S16 32) : Prop :=
  (∀ a x, ((![v23, v378] : Fin 2 → IVec S16 32) a x).toNat < S128x256.size a)
theorem k0_idx51_inb : ∀ (v23 : IVec S16 32) (v378 : IVec S16 32) (k0_hw49 : k0_chk49 v23 v378), ∀ a x, ((![v23, v378] : Fin 2 → IVec S16 32) a x).toNat < S128x256.size a := fun v23 v378 k0_hw49 => k0_hw49

def k0_chk50 (v23 : IVec S16 32) (v401 : IVec S16 32) : Prop :=
  (∀ a x, ((![v23, v401] : Fin 2 → IVec S16 32) a x).toNat < S128x256.size a)
theorem k0_idx52_inb : ∀ (v23 : IVec S16 32) (v401 : IVec S16 32) (k0_hw50 : k0_chk50 v23 v401), ∀ a x, ((![v23, v401] : Fin 2 → IVec S16 32) a x).toNat < S128x256.size a := fun v23 v401 k0_hw50 => k0_hw50

def k0_chk51 (v23 : IVec S16 32) (v424 : IVec S16 32) : Prop :=
  (∀ a x, ((![v23, v424] : Fin 2 → IVec S16 32) a x).toNat < S128x256.size a)
theorem k0_idx53_inb : ∀ (v23 : IVec S16 32) (v424 : IVec S16 32) (k0_hw51 : k0_chk51 v23 v424), ∀ a x, ((![v23, v424] : Fin 2 → IVec S16 32) a x).toNat < S128x256.size a := fun v23 v424 k0_hw51 => k0_hw51

def k0_chk52 (v23 : IVec S16 32) (v447 : IVec S16 32) : Prop :=
  (∀ a x, ((![v23, v447] : Fin 2 → IVec S16 32) a x).toNat < S128x256.size a)
theorem k0_idx54_inb : ∀ (v23 : IVec S16 32) (v447 : IVec S16 32) (k0_hw52 : k0_chk52 v23 v447), ∀ a x, ((![v23, v447] : Fin 2 → IVec S16 32) a x).toNat < S128x256.size a := fun v23 v447 k0_hw52 => k0_hw52

def k0_chk53 (v23 : IVec S16 32) (v470 : IVec S16 32) : Prop :=
  (∀ a x, ((![v23, v470] : Fin 2 → IVec S16 32) a x).toNat < S128x256.size a)
theorem k0_idx55_inb : ∀ (v23 : IVec S16 32) (v470 : IVec S16 32) (k0_hw53 : k0_chk53 v23 v470), ∀ a x, ((![v23, v470] : Fin 2 → IVec S16 32) a x).toNat < S128x256.size a := fun v23 v470 k0_hw53 => k0_hw53

def k0_chk54 (v23 : IVec S16 32) (v493 : IVec S16 32) : Prop :=
  (∀ a x, ((![v23, v493] : Fin 2 → IVec S16 32) a x).toNat < S128x256.size a)
theorem k0_idx56_inb : ∀ (v23 : IVec S16 32) (v493 : IVec S16 32) (k0_hw54 : k0_chk54 v23 v493), ∀ a x, ((![v23, v493] : Fin 2 → IVec S16 32) a x).toNat < S128x256.size a := fun v23 v493 k0_hw54 => k0_hw54

def k0_chk55 (v23 : IVec S16 32) (v516 : IVec S16 32) : Prop :=
  (∀ a x, ((![v23, v516] : Fin 2 → IVec S16 32) a x).toNat < S128x256.size a)
theorem k0_idx57_inb : ∀ (v23 : IVec S16 32) (v516 : IVec S16 32) (k0_hw55 : k0_chk55 v23 v516), ∀ a x, ((![v23, v516] : Fin 2 → IVec S16 32) a x).toNat < S128x256.size a := fun v23 v516 k0_hw55 => k0_hw55

def k0_chk56 (v23 : IVec S16 32) (v539 : IVec S16 32) : Prop :=
  (∀ a x, ((![v23, v539] : Fin 2 → IVec S16 32) a x).toNat < S128x256.size a)
theorem k0_idx58_inb : ∀ (v23 : IVec S16 32) (v539 : IVec S16 32) (k0_hw56 : k0_chk56 v23 v539), ∀ a x, ((![v23, v539] : Fin 2 → IVec S16 32) a x).toNat < S128x256.size a := fun v23 v539 k0_hw56 => k0_hw56

def k0_chk57 (v23 : IVec S16 32) (v562 : IVec S16 32) : Prop :=
  (∀ a x, ((![v23, v562] : Fin 2 → IVec S16 32) a x).toNat < S128x256.size a)
theorem k0_idx59_inb : ∀ (v23 : IVec S16 32) (v562 : IVec S16 32) (k0_hw57 : k0_chk57 v23 v562), ∀ a x, ((![v23, v562] : Fin 2 → IVec S16 32) a x).toNat < S128x256.size a := fun v23 v562 k0_hw57 => k0_hw57

def k0_chk58 (v23 : IVec S16 32) (v585 : IVec S16 32) : Prop :=
  (∀ a x, ((![v23, v585] : Fin 2 → IVec S16 32) a x).toNat < S128x256.size a)
theorem k0_idx60_inb : ∀ (v23 : IVec S16 32) (v585 : IVec S16 32) (k0_hw58 : k0_chk58 v23 v585), ∀ a x, ((![v23, v585] : Fin 2 → IVec S16 32) a x).toNat < S128x256.size a := fun v23 v585 k0_hw58 => k0_hw58

def k0_chk59 (v23 : IVec S16 32) (v608 : IVec S16 32) : Prop :=
  (∀ a x, ((![v23, v608] : Fin 2 → IVec S16 32) a x).toNat < S128x256.size a)
theorem k0_idx61_inb : ∀ (v23 : IVec S16 32) (v608 : IVec S16 32) (k0_hw59 : k0_chk59 v23 v608), ∀ a x, ((![v23, v608] : Fin 2 → IVec S16 32) a x).toNat < S128x256.size a := fun v23 v608 k0_hw59 => k0_hw59

def k0_chk60 (v23 : IVec S16 32) (v631 : IVec S16 32) : Prop :=
  (∀ a x, ((![v23, v631] : Fin 2 → IVec S16 32) a x).toNat < S128x256.size a)
theorem k0_idx62_inb : ∀ (v23 : IVec S16 32) (v631 : IVec S16 32) (k0_hw60 : k0_chk60 v23 v631), ∀ a x, ((![v23, v631] : Fin 2 → IVec S16 32) a x).toNat < S128x256.size a := fun v23 v631 k0_hw60 => k0_hw60

def k0_chk61 (v23 : IVec S16 32) (v654 : IVec S16 32) : Prop :=
  (∀ a x, ((![v23, v654] : Fin 2 → IVec S16 32) a x).toNat < S128x256.size a)
theorem k0_idx63_inb : ∀ (v23 : IVec S16 32) (v654 : IVec S16 32) (k0_hw61 : k0_chk61 v23 v654), ∀ a x, ((![v23, v654] : Fin 2 → IVec S16 32) a x).toNat < S128x256.size a := fun v23 v654 k0_hw61 => k0_hw61

def k0_chk62 (v23 : IVec S16 32) (v677 : IVec S16 32) : Prop :=
  (∀ a x, ((![v23, v677] : Fin 2 → IVec S16 32) a x).toNat < S128x256.size a)
theorem k0_idx64_inb : ∀ (v23 : IVec S16 32) (v677 : IVec S16 32) (k0_hw62 : k0_chk62 v23 v677), ∀ a x, ((![v23, v677] : Fin 2 → IVec S16 32) a x).toNat < S128x256.size a := fun v23 v677 k0_hw62 => k0_hw62

def k0_chk63 (v23 : IVec S16 32) (v700 : IVec S16 32) : Prop :=
  (∀ a x, ((![v23, v700] : Fin 2 → IVec S16 32) a x).toNat < S128x256.size a)
theorem k0_idx65_inb : ∀ (v23 : IVec S16 32) (v700 : IVec S16 32) (k0_hw63 : k0_chk63 v23 v700), ∀ a x, ((![v23, v700] : Fin 2 → IVec S16 32) a x).toNat < S128x256.size a := fun v23 v700 k0_hw63 => k0_hw63

def k0_chk64 (v23 : IVec S16 32) (v723 : IVec S16 32) : Prop :=
  (∀ a x, ((![v23, v723] : Fin 2 → IVec S16 32) a x).toNat < S128x256.size a)
theorem k0_idx66_inb : ∀ (v23 : IVec S16 32) (v723 : IVec S16 32) (k0_hw64 : k0_chk64 v23 v723), ∀ a x, ((![v23, v723] : Fin 2 → IVec S16 32) a x).toNat < S128x256.size a := fun v23 v723 k0_hw64 => k0_hw64

def k0_chk65 (v23 : IVec S16 32) (v746 : IVec S16 32) : Prop :=
  (∀ a x, ((![v23, v746] : Fin 2 → IVec S16 32) a x).toNat < S128x256.size a)
theorem k0_idx67_inb : ∀ (v23 : IVec S16 32) (v746 : IVec S16 32) (k0_hw65 : k0_chk65 v23 v746), ∀ a x, ((![v23, v746] : Fin 2 → IVec S16 32) a x).toNat < S128x256.size a := fun v23 v746 k0_hw65 => k0_hw65

def k0_chk66 (v23 : IVec S16 32) (v769 : IVec S16 32) : Prop :=
  (∀ a x, ((![v23, v769] : Fin 2 → IVec S16 32) a x).toNat < S128x256.size a)
theorem k0_idx68_inb : ∀ (v23 : IVec S16 32) (v769 : IVec S16 32) (k0_hw66 : k0_chk66 v23 v769), ∀ a x, ((![v23, v769] : Fin 2 → IVec S16 32) a x).toNat < S128x256.size a := fun v23 v769 k0_hw66 => k0_hw66
@[reducible] def k0_t6_loop : Scf.Loop 32 :=
  let c0_i32_19 : BitVec 32 := 0#32
  let c128_i32_20 : BitVec 32 := 128#32
  let v13 : BitVec 32 := Scalar.addi c0_i32_19 c128_i32_20
  let c1_i32_21 : BitVec 32 := 1#32
  ⟨c0_i32_19, v13, c1_i32_21⟩
def k0_off36 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v21 : Index := Scalar.indexCast v20
  let c0 : Index := 0#32
  ![v21.toNat, 0]
def k0_off37 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v23 : Index := Scalar.indexCast v20
  let c16 : Index := 16#32
  ![v23.toNat, 16]
def k0_off38 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v25 : Index := Scalar.indexCast v20
  let c32 : Index := 32#32
  ![v25.toNat, 32]
def k0_off39 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v27 : Index := Scalar.indexCast v20
  let c48 : Index := 48#32
  ![v27.toNat, 48]
def k0_off40 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v29 : Index := Scalar.indexCast v20
  let c64 : Index := 64#32
  ![v29.toNat, 64]
def k0_off41 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v31 : Index := Scalar.indexCast v20
  let c80 : Index := 80#32
  ![v31.toNat, 80]
def k0_off42 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v33 : Index := Scalar.indexCast v20
  let c96 : Index := 96#32
  ![v33.toNat, 96]
def k0_off43 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v35 : Index := Scalar.indexCast v20
  let c112 : Index := 112#32
  ![v35.toNat, 112]
def k0_off44 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v37 : Index := Scalar.indexCast v20
  let c128 : Index := 128#32
  ![v37.toNat, 128]
def k0_off45 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v39 : Index := Scalar.indexCast v20
  let c144 : Index := 144#32
  ![v39.toNat, 144]
def k0_off46 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v41 : Index := Scalar.indexCast v20
  let c160 : Index := 160#32
  ![v41.toNat, 160]
def k0_off47 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v43 : Index := Scalar.indexCast v20
  let c176 : Index := 176#32
  ![v43.toNat, 176]
def k0_off48 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v45 : Index := Scalar.indexCast v20
  let c192 : Index := 192#32
  ![v45.toNat, 192]
def k0_off49 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v47 : Index := Scalar.indexCast v20
  let c208 : Index := 208#32
  ![v47.toNat, 208]
def k0_off50 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v49 : Index := Scalar.indexCast v20
  let c224 : Index := 224#32
  ![v49.toNat, 224]
def k0_off51 (k0_t6 : Fin k0_t6_loop.trips) : Fin 2 → Nat :=
  let c0_i32_36 : BitVec 32 := 0#32
  let c0_i32_19 : BitVec 32 := 0#32
  let c1_i32_21 : BitVec 32 := 1#32
  let arg8 : BitVec 32 := Scf.iv c0_i32_19 c1_i32_21 k0_t6
  let c1_i32_35 : BitVec 32 := 1#32
  let v19 : BitVec 32 := Scalar.muli arg8 c1_i32_35
  let v20 : BitVec 32 := Scalar.addi c0_i32_36 v19
  let v51 : Index := Scalar.indexCast v20
  let c240 : Index := 240#32
  ![v51.toNat, 240]
@[reducible] def k0_t7_loop : Scf.Loop 32 :=
  let c0_i32_23 : BitVec 32 := 0#32
  let c128_i32_24 : BitVec 32 := 128#32
  let v14 : BitVec 32 := Scalar.addi c0_i32_23 c128_i32_24
  let c1_i32_25 : BitVec 32 := 1#32
  ⟨c0_i32_23, v14, c1_i32_25⟩

def k0_chk67 (v22 : IVec S16 32) : Prop :=
  (∀ a x, ((![v22] : Fin 1 → IVec S16 32) a x).toNat < S512.size a) ∧
  (∀ a x, ((![v22] : Fin 1 → IVec S16 32) a x).toNat < S512.size a)
theorem k0_idx69_inb : ∀ (v22 : IVec S16 32) (k0_hw67 : k0_chk67 v22), ∀ a x, ((![v22] : Fin 1 → IVec S16 32) a x).toNat < S512.size a := fun v22 k0_hw67 => k0_hw67.1
theorem k0_idx70_inb : ∀ (v22 : IVec S16 32) (k0_hw67 : k0_chk67 v22), ∀ a x, ((![v22] : Fin 1 → IVec S16 32) a x).toNat < S512.size a := fun v22 k0_hw67 => k0_hw67.2

def k0_chk68 (v23 : IVec S16 32) (v56 : IVec S16 32) : Prop :=
  (∀ a x, ((![v23, v56] : Fin 2 → IVec S16 32) a x).toNat < S128x256.size a)
theorem k0_idx71_inb : ∀ (v23 : IVec S16 32) (v56 : IVec S16 32) (k0_hw68 : k0_chk68 v23 v56), ∀ a x, ((![v23, v56] : Fin 2 → IVec S16 32) a x).toNat < S128x256.size a := fun v23 v56 k0_hw68 => k0_hw68

def k0_chk69 (v23 : IVec S16 32) (v79 : IVec S16 32) : Prop :=
  (∀ a x, ((![v23, v79] : Fin 2 → IVec S16 32) a x).toNat < S128x256.size a)
theorem k0_idx72_inb : ∀ (v23 : IVec S16 32) (v79 : IVec S16 32) (k0_hw69 : k0_chk69 v23 v79), ∀ a x, ((![v23, v79] : Fin 2 → IVec S16 32) a x).toNat < S128x256.size a := fun v23 v79 k0_hw69 => k0_hw69

def k0_chk70 (v23 : IVec S16 32) (v102 : IVec S16 32) : Prop :=
  (∀ a x, ((![v23, v102] : Fin 2 → IVec S16 32) a x).toNat < S128x256.size a)
theorem k0_idx73_inb : ∀ (v23 : IVec S16 32) (v102 : IVec S16 32) (k0_hw70 : k0_chk70 v23 v102), ∀ a x, ((![v23, v102] : Fin 2 → IVec S16 32) a x).toNat < S128x256.size a := fun v23 v102 k0_hw70 => k0_hw70

def k0_chk71 (v23 : IVec S16 32) (v125 : IVec S16 32) : Prop :=
  (∀ a x, ((![v23, v125] : Fin 2 → IVec S16 32) a x).toNat < S128x256.size a)
theorem k0_idx74_inb : ∀ (v23 : IVec S16 32) (v125 : IVec S16 32) (k0_hw71 : k0_chk71 v23 v125), ∀ a x, ((![v23, v125] : Fin 2 → IVec S16 32) a x).toNat < S128x256.size a := fun v23 v125 k0_hw71 => k0_hw71

def k0_chk72 (v23 : IVec S16 32) (v148 : IVec S16 32) : Prop :=
  (∀ a x, ((![v23, v148] : Fin 2 → IVec S16 32) a x).toNat < S128x256.size a)
theorem k0_idx75_inb : ∀ (v23 : IVec S16 32) (v148 : IVec S16 32) (k0_hw72 : k0_chk72 v23 v148), ∀ a x, ((![v23, v148] : Fin 2 → IVec S16 32) a x).toNat < S128x256.size a := fun v23 v148 k0_hw72 => k0_hw72

def k0_chk73 (v23 : IVec S16 32) (v171 : IVec S16 32) : Prop :=
  (∀ a x, ((![v23, v171] : Fin 2 → IVec S16 32) a x).toNat < S128x256.size a)
theorem k0_idx76_inb : ∀ (v23 : IVec S16 32) (v171 : IVec S16 32) (k0_hw73 : k0_chk73 v23 v171), ∀ a x, ((![v23, v171] : Fin 2 → IVec S16 32) a x).toNat < S128x256.size a := fun v23 v171 k0_hw73 => k0_hw73

def k0_chk74 (v23 : IVec S16 32) (v194 : IVec S16 32) : Prop :=
  (∀ a x, ((![v23, v194] : Fin 2 → IVec S16 32) a x).toNat < S128x256.size a)
theorem k0_idx77_inb : ∀ (v23 : IVec S16 32) (v194 : IVec S16 32) (k0_hw74 : k0_chk74 v23 v194), ∀ a x, ((![v23, v194] : Fin 2 → IVec S16 32) a x).toNat < S128x256.size a := fun v23 v194 k0_hw74 => k0_hw74

def k0_chk75 (v23 : IVec S16 32) (v217 : IVec S16 32) : Prop :=
  (∀ a x, ((![v23, v217] : Fin 2 → IVec S16 32) a x).toNat < S128x256.size a)
theorem k0_idx78_inb : ∀ (v23 : IVec S16 32) (v217 : IVec S16 32) (k0_hw75 : k0_chk75 v23 v217), ∀ a x, ((![v23, v217] : Fin 2 → IVec S16 32) a x).toNat < S128x256.size a := fun v23 v217 k0_hw75 => k0_hw75

def k0_chk76 (v23 : IVec S16 32) (v240 : IVec S16 32) : Prop :=
  (∀ a x, ((![v23, v240] : Fin 2 → IVec S16 32) a x).toNat < S128x256.size a)
theorem k0_idx79_inb : ∀ (v23 : IVec S16 32) (v240 : IVec S16 32) (k0_hw76 : k0_chk76 v23 v240), ∀ a x, ((![v23, v240] : Fin 2 → IVec S16 32) a x).toNat < S128x256.size a := fun v23 v240 k0_hw76 => k0_hw76

def k0_chk77 (v23 : IVec S16 32) (v263 : IVec S16 32) : Prop :=
  (∀ a x, ((![v23, v263] : Fin 2 → IVec S16 32) a x).toNat < S128x256.size a)
theorem k0_idx80_inb : ∀ (v23 : IVec S16 32) (v263 : IVec S16 32) (k0_hw77 : k0_chk77 v23 v263), ∀ a x, ((![v23, v263] : Fin 2 → IVec S16 32) a x).toNat < S128x256.size a := fun v23 v263 k0_hw77 => k0_hw77

def k0_chk78 (v23 : IVec S16 32) (v286 : IVec S16 32) : Prop :=
  (∀ a x, ((![v23, v286] : Fin 2 → IVec S16 32) a x).toNat < S128x256.size a)
theorem k0_idx81_inb : ∀ (v23 : IVec S16 32) (v286 : IVec S16 32) (k0_hw78 : k0_chk78 v23 v286), ∀ a x, ((![v23, v286] : Fin 2 → IVec S16 32) a x).toNat < S128x256.size a := fun v23 v286 k0_hw78 => k0_hw78

def k0_chk79 (v23 : IVec S16 32) (v309 : IVec S16 32) : Prop :=
  (∀ a x, ((![v23, v309] : Fin 2 → IVec S16 32) a x).toNat < S128x256.size a)
theorem k0_idx82_inb : ∀ (v23 : IVec S16 32) (v309 : IVec S16 32) (k0_hw79 : k0_chk79 v23 v309), ∀ a x, ((![v23, v309] : Fin 2 → IVec S16 32) a x).toNat < S128x256.size a := fun v23 v309 k0_hw79 => k0_hw79

def k0_chk80 (v23 : IVec S16 32) (v332 : IVec S16 32) : Prop :=
  (∀ a x, ((![v23, v332] : Fin 2 → IVec S16 32) a x).toNat < S128x256.size a)
theorem k0_idx83_inb : ∀ (v23 : IVec S16 32) (v332 : IVec S16 32) (k0_hw80 : k0_chk80 v23 v332), ∀ a x, ((![v23, v332] : Fin 2 → IVec S16 32) a x).toNat < S128x256.size a := fun v23 v332 k0_hw80 => k0_hw80

def k0_chk81 (v23 : IVec S16 32) (v355 : IVec S16 32) : Prop :=
  (∀ a x, ((![v23, v355] : Fin 2 → IVec S16 32) a x).toNat < S128x256.size a)
theorem k0_idx84_inb : ∀ (v23 : IVec S16 32) (v355 : IVec S16 32) (k0_hw81 : k0_chk81 v23 v355), ∀ a x, ((![v23, v355] : Fin 2 → IVec S16 32) a x).toNat < S128x256.size a := fun v23 v355 k0_hw81 => k0_hw81

def k0_chk82 (v23 : IVec S16 32) (v378 : IVec S16 32) : Prop :=
  (∀ a x, ((![v23, v378] : Fin 2 → IVec S16 32) a x).toNat < S128x256.size a)
theorem k0_idx85_inb : ∀ (v23 : IVec S16 32) (v378 : IVec S16 32) (k0_hw82 : k0_chk82 v23 v378), ∀ a x, ((![v23, v378] : Fin 2 → IVec S16 32) a x).toNat < S128x256.size a := fun v23 v378 k0_hw82 => k0_hw82

def k0_chk83 (v23 : IVec S16 32) (v401 : IVec S16 32) : Prop :=
  (∀ a x, ((![v23, v401] : Fin 2 → IVec S16 32) a x).toNat < S128x256.size a)
theorem k0_idx86_inb : ∀ (v23 : IVec S16 32) (v401 : IVec S16 32) (k0_hw83 : k0_chk83 v23 v401), ∀ a x, ((![v23, v401] : Fin 2 → IVec S16 32) a x).toNat < S128x256.size a := fun v23 v401 k0_hw83 => k0_hw83

def k0_chk84 (v23 : IVec S16 32) (v424 : IVec S16 32) : Prop :=
  (∀ a x, ((![v23, v424] : Fin 2 → IVec S16 32) a x).toNat < S128x256.size a)
theorem k0_idx87_inb : ∀ (v23 : IVec S16 32) (v424 : IVec S16 32) (k0_hw84 : k0_chk84 v23 v424), ∀ a x, ((![v23, v424] : Fin 2 → IVec S16 32) a x).toNat < S128x256.size a := fun v23 v424 k0_hw84 => k0_hw84

def k0_chk85 (v23 : IVec S16 32) (v447 : IVec S16 32) : Prop :=
  (∀ a x, ((![v23, v447] : Fin 2 → IVec S16 32) a x).toNat < S128x256.size a)
theorem k0_idx88_inb : ∀ (v23 : IVec S16 32) (v447 : IVec S16 32) (k0_hw85 : k0_chk85 v23 v447), ∀ a x, ((![v23, v447] : Fin 2 → IVec S16 32) a x).toNat < S128x256.size a := fun v23 v447 k0_hw85 => k0_hw85

def k0_chk86 (v23 : IVec S16 32) (v470 : IVec S16 32) : Prop :=
  (∀ a x, ((![v23, v470] : Fin 2 → IVec S16 32) a x).toNat < S128x256.size a)
theorem k0_idx89_inb : ∀ (v23 : IVec S16 32) (v470 : IVec S16 32) (k0_hw86 : k0_chk86 v23 v470), ∀ a x, ((![v23, v470] : Fin 2 → IVec S16 32) a x).toNat < S128x256.size a := fun v23 v470 k0_hw86 => k0_hw86

def k0_chk87 (v23 : IVec S16 32) (v493 : IVec S16 32) : Prop :=
  (∀ a x, ((![v23, v493] : Fin 2 → IVec S16 32) a x).toNat < S128x256.size a)
theorem k0_idx90_inb : ∀ (v23 : IVec S16 32) (v493 : IVec S16 32) (k0_hw87 : k0_chk87 v23 v493), ∀ a x, ((![v23, v493] : Fin 2 → IVec S16 32) a x).toNat < S128x256.size a := fun v23 v493 k0_hw87 => k0_hw87

def k0_chk88 (v23 : IVec S16 32) (v516 : IVec S16 32) : Prop :=
  (∀ a x, ((![v23, v516] : Fin 2 → IVec S16 32) a x).toNat < S128x256.size a)
theorem k0_idx91_inb : ∀ (v23 : IVec S16 32) (v516 : IVec S16 32) (k0_hw88 : k0_chk88 v23 v516), ∀ a x, ((![v23, v516] : Fin 2 → IVec S16 32) a x).toNat < S128x256.size a := fun v23 v516 k0_hw88 => k0_hw88

def k0_chk89 (v23 : IVec S16 32) (v539 : IVec S16 32) : Prop :=
  (∀ a x, ((![v23, v539] : Fin 2 → IVec S16 32) a x).toNat < S128x256.size a)
theorem k0_idx92_inb : ∀ (v23 : IVec S16 32) (v539 : IVec S16 32) (k0_hw89 : k0_chk89 v23 v539), ∀ a x, ((![v23, v539] : Fin 2 → IVec S16 32) a x).toNat < S128x256.size a := fun v23 v539 k0_hw89 => k0_hw89

def k0_chk90 (v23 : IVec S16 32) (v562 : IVec S16 32) : Prop :=
  (∀ a x, ((![v23, v562] : Fin 2 → IVec S16 32) a x).toNat < S128x256.size a)
theorem k0_idx93_inb : ∀ (v23 : IVec S16 32) (v562 : IVec S16 32) (k0_hw90 : k0_chk90 v23 v562), ∀ a x, ((![v23, v562] : Fin 2 → IVec S16 32) a x).toNat < S128x256.size a := fun v23 v562 k0_hw90 => k0_hw90

def k0_chk91 (v23 : IVec S16 32) (v585 : IVec S16 32) : Prop :=
  (∀ a x, ((![v23, v585] : Fin 2 → IVec S16 32) a x).toNat < S128x256.size a)
theorem k0_idx94_inb : ∀ (v23 : IVec S16 32) (v585 : IVec S16 32) (k0_hw91 : k0_chk91 v23 v585), ∀ a x, ((![v23, v585] : Fin 2 → IVec S16 32) a x).toNat < S128x256.size a := fun v23 v585 k0_hw91 => k0_hw91

def k0_chk92 (v23 : IVec S16 32) (v608 : IVec S16 32) : Prop :=
  (∀ a x, ((![v23, v608] : Fin 2 → IVec S16 32) a x).toNat < S128x256.size a)
theorem k0_idx95_inb : ∀ (v23 : IVec S16 32) (v608 : IVec S16 32) (k0_hw92 : k0_chk92 v23 v608), ∀ a x, ((![v23, v608] : Fin 2 → IVec S16 32) a x).toNat < S128x256.size a := fun v23 v608 k0_hw92 => k0_hw92

def k0_chk93 (v23 : IVec S16 32) (v631 : IVec S16 32) : Prop :=
  (∀ a x, ((![v23, v631] : Fin 2 → IVec S16 32) a x).toNat < S128x256.size a)
theorem k0_idx96_inb : ∀ (v23 : IVec S16 32) (v631 : IVec S16 32) (k0_hw93 : k0_chk93 v23 v631), ∀ a x, ((![v23, v631] : Fin 2 → IVec S16 32) a x).toNat < S128x256.size a := fun v23 v631 k0_hw93 => k0_hw93

def k0_chk94 (v23 : IVec S16 32) (v654 : IVec S16 32) : Prop :=
  (∀ a x, ((![v23, v654] : Fin 2 → IVec S16 32) a x).toNat < S128x256.size a)
theorem k0_idx97_inb : ∀ (v23 : IVec S16 32) (v654 : IVec S16 32) (k0_hw94 : k0_chk94 v23 v654), ∀ a x, ((![v23, v654] : Fin 2 → IVec S16 32) a x).toNat < S128x256.size a := fun v23 v654 k0_hw94 => k0_hw94

def k0_chk95 (v23 : IVec S16 32) (v677 : IVec S16 32) : Prop :=
  (∀ a x, ((![v23, v677] : Fin 2 → IVec S16 32) a x).toNat < S128x256.size a)
theorem k0_idx98_inb : ∀ (v23 : IVec S16 32) (v677 : IVec S16 32) (k0_hw95 : k0_chk95 v23 v677), ∀ a x, ((![v23, v677] : Fin 2 → IVec S16 32) a x).toNat < S128x256.size a := fun v23 v677 k0_hw95 => k0_hw95

def k0_chk96 (v23 : IVec S16 32) (v700 : IVec S16 32) : Prop :=
  (∀ a x, ((![v23, v700] : Fin 2 → IVec S16 32) a x).toNat < S128x256.size a)
theorem k0_idx99_inb : ∀ (v23 : IVec S16 32) (v700 : IVec S16 32) (k0_hw96 : k0_chk96 v23 v700), ∀ a x, ((![v23, v700] : Fin 2 → IVec S16 32) a x).toNat < S128x256.size a := fun v23 v700 k0_hw96 => k0_hw96

def k0_chk97 (v23 : IVec S16 32) (v723 : IVec S16 32) : Prop :=
  (∀ a x, ((![v23, v723] : Fin 2 → IVec S16 32) a x).toNat < S128x256.size a)
theorem k0_idx100_inb : ∀ (v23 : IVec S16 32) (v723 : IVec S16 32) (k0_hw97 : k0_chk97 v23 v723), ∀ a x, ((![v23, v723] : Fin 2 → IVec S16 32) a x).toNat < S128x256.size a := fun v23 v723 k0_hw97 => k0_hw97

def k0_chk98 (v23 : IVec S16 32) (v746 : IVec S16 32) : Prop :=
  (∀ a x, ((![v23, v746] : Fin 2 → IVec S16 32) a x).toNat < S128x256.size a)
theorem k0_idx101_inb : ∀ (v23 : IVec S16 32) (v746 : IVec S16 32) (k0_hw98 : k0_chk98 v23 v746), ∀ a x, ((![v23, v746] : Fin 2 → IVec S16 32) a x).toNat < S128x256.size a := fun v23 v746 k0_hw98 => k0_hw98

def k0_chk99 (v23 : IVec S16 32) (v769 : IVec S16 32) : Prop :=
  (∀ a x, ((![v23, v769] : Fin 2 → IVec S16 32) a x).toNat < S128x256.size a)
theorem k0_idx102_inb : ∀ (v23 : IVec S16 32) (v769 : IVec S16 32) (k0_hw99 : k0_chk99 v23 v769), ∀ a x, ((![v23, v769] : Fin 2 → IVec S16 32) a x).toNat < S128x256.size a := fun v23 v769 k0_hw99 => k0_hw99
@[reducible] def k0_t8_loop : Scf.Loop 32 :=
  let c0_i32_27 : BitVec 32 := 0#32
  let c128_i32_28 : BitVec 32 := 128#32
  let v16 : BitVec 32 := Scalar.addi c0_i32_27 c128_i32_28
  let c1_i32_29 : BitVec 32 := 1#32
  ⟨c0_i32_27, v16, c1_i32_29⟩
def k0_off52 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v21 : Index := Scalar.indexCast v20
  let c0 : Index := 0#32
  ![v21.toNat, 0]
def k0_off53 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v23 : Index := Scalar.indexCast v20
  let c16 : Index := 16#32
  ![v23.toNat, 16]
def k0_off54 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v25 : Index := Scalar.indexCast v20
  let c32 : Index := 32#32
  ![v25.toNat, 32]
def k0_off55 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v27 : Index := Scalar.indexCast v20
  let c48 : Index := 48#32
  ![v27.toNat, 48]
def k0_off56 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v29 : Index := Scalar.indexCast v20
  let c64 : Index := 64#32
  ![v29.toNat, 64]
def k0_off57 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v31 : Index := Scalar.indexCast v20
  let c80 : Index := 80#32
  ![v31.toNat, 80]
def k0_off58 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v33 : Index := Scalar.indexCast v20
  let c96 : Index := 96#32
  ![v33.toNat, 96]
def k0_off59 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v35 : Index := Scalar.indexCast v20
  let c112 : Index := 112#32
  ![v35.toNat, 112]
def k0_off60 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v37 : Index := Scalar.indexCast v20
  let c128 : Index := 128#32
  ![v37.toNat, 128]
def k0_off61 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v39 : Index := Scalar.indexCast v20
  let c144 : Index := 144#32
  ![v39.toNat, 144]
def k0_off62 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v41 : Index := Scalar.indexCast v20
  let c160 : Index := 160#32
  ![v41.toNat, 160]
def k0_off63 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v43 : Index := Scalar.indexCast v20
  let c176 : Index := 176#32
  ![v43.toNat, 176]
def k0_off64 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v45 : Index := Scalar.indexCast v20
  let c192 : Index := 192#32
  ![v45.toNat, 192]
def k0_off65 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v47 : Index := Scalar.indexCast v20
  let c208 : Index := 208#32
  ![v47.toNat, 208]
def k0_off66 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v49 : Index := Scalar.indexCast v20
  let c224 : Index := 224#32
  ![v49.toNat, 224]
def k0_off67 (k0_t8 : Fin k0_t8_loop.trips) : Fin 2 → Nat :=
  let c0_i32_36 : BitVec 32 := 0#32
  let c0_i32_27 : BitVec 32 := 0#32
  let c1_i32_29 : BitVec 32 := 1#32
  let arg8 : BitVec 32 := Scf.iv c0_i32_27 c1_i32_29 k0_t8
  let c1_i32_35 : BitVec 32 := 1#32
  let v19 : BitVec 32 := Scalar.muli arg8 c1_i32_35
  let v20 : BitVec 32 := Scalar.addi c0_i32_36 v19
  let v51 : Index := Scalar.indexCast v20
  let c240 : Index := 240#32
  ![v51.toNat, 240]
@[reducible] def k0_t9_loop : Scf.Loop 32 :=
  let c0_i32_31 : BitVec 32 := 0#32
  let c128_i32_32 : BitVec 32 := 128#32
  let v17 : BitVec 32 := Scalar.addi c0_i32_31 c128_i32_32
  let c1_i32_33 : BitVec 32 := 1#32
  ⟨c0_i32_31, v17, c1_i32_33⟩

def k0_chk100 (v22 : IVec S16 32) : Prop :=
  (∀ a x, ((![v22] : Fin 1 → IVec S16 32) a x).toNat < S512.size a) ∧
  (∀ a x, ((![v22] : Fin 1 → IVec S16 32) a x).toNat < S512.size a)
theorem k0_idx103_inb : ∀ (v22 : IVec S16 32) (k0_hw100 : k0_chk100 v22), ∀ a x, ((![v22] : Fin 1 → IVec S16 32) a x).toNat < S512.size a := fun v22 k0_hw100 => k0_hw100.1
theorem k0_idx104_inb : ∀ (v22 : IVec S16 32) (k0_hw100 : k0_chk100 v22), ∀ a x, ((![v22] : Fin 1 → IVec S16 32) a x).toNat < S512.size a := fun v22 k0_hw100 => k0_hw100.2

def k0_chk101 (v23 : IVec S16 32) (v56 : IVec S16 32) : Prop :=
  (∀ a x, ((![v23, v56] : Fin 2 → IVec S16 32) a x).toNat < S128x256.size a)
theorem k0_idx105_inb : ∀ (v23 : IVec S16 32) (v56 : IVec S16 32) (k0_hw101 : k0_chk101 v23 v56), ∀ a x, ((![v23, v56] : Fin 2 → IVec S16 32) a x).toNat < S128x256.size a := fun v23 v56 k0_hw101 => k0_hw101

def k0_chk102 (v23 : IVec S16 32) (v79 : IVec S16 32) : Prop :=
  (∀ a x, ((![v23, v79] : Fin 2 → IVec S16 32) a x).toNat < S128x256.size a)
theorem k0_idx106_inb : ∀ (v23 : IVec S16 32) (v79 : IVec S16 32) (k0_hw102 : k0_chk102 v23 v79), ∀ a x, ((![v23, v79] : Fin 2 → IVec S16 32) a x).toNat < S128x256.size a := fun v23 v79 k0_hw102 => k0_hw102

def k0_chk103 (v23 : IVec S16 32) (v102 : IVec S16 32) : Prop :=
  (∀ a x, ((![v23, v102] : Fin 2 → IVec S16 32) a x).toNat < S128x256.size a)
theorem k0_idx107_inb : ∀ (v23 : IVec S16 32) (v102 : IVec S16 32) (k0_hw103 : k0_chk103 v23 v102), ∀ a x, ((![v23, v102] : Fin 2 → IVec S16 32) a x).toNat < S128x256.size a := fun v23 v102 k0_hw103 => k0_hw103

def k0_chk104 (v23 : IVec S16 32) (v125 : IVec S16 32) : Prop :=
  (∀ a x, ((![v23, v125] : Fin 2 → IVec S16 32) a x).toNat < S128x256.size a)
theorem k0_idx108_inb : ∀ (v23 : IVec S16 32) (v125 : IVec S16 32) (k0_hw104 : k0_chk104 v23 v125), ∀ a x, ((![v23, v125] : Fin 2 → IVec S16 32) a x).toNat < S128x256.size a := fun v23 v125 k0_hw104 => k0_hw104

def k0_chk105 (v23 : IVec S16 32) (v148 : IVec S16 32) : Prop :=
  (∀ a x, ((![v23, v148] : Fin 2 → IVec S16 32) a x).toNat < S128x256.size a)
theorem k0_idx109_inb : ∀ (v23 : IVec S16 32) (v148 : IVec S16 32) (k0_hw105 : k0_chk105 v23 v148), ∀ a x, ((![v23, v148] : Fin 2 → IVec S16 32) a x).toNat < S128x256.size a := fun v23 v148 k0_hw105 => k0_hw105

def k0_chk106 (v23 : IVec S16 32) (v171 : IVec S16 32) : Prop :=
  (∀ a x, ((![v23, v171] : Fin 2 → IVec S16 32) a x).toNat < S128x256.size a)
theorem k0_idx110_inb : ∀ (v23 : IVec S16 32) (v171 : IVec S16 32) (k0_hw106 : k0_chk106 v23 v171), ∀ a x, ((![v23, v171] : Fin 2 → IVec S16 32) a x).toNat < S128x256.size a := fun v23 v171 k0_hw106 => k0_hw106

def k0_chk107 (v23 : IVec S16 32) (v194 : IVec S16 32) : Prop :=
  (∀ a x, ((![v23, v194] : Fin 2 → IVec S16 32) a x).toNat < S128x256.size a)
theorem k0_idx111_inb : ∀ (v23 : IVec S16 32) (v194 : IVec S16 32) (k0_hw107 : k0_chk107 v23 v194), ∀ a x, ((![v23, v194] : Fin 2 → IVec S16 32) a x).toNat < S128x256.size a := fun v23 v194 k0_hw107 => k0_hw107

def k0_chk108 (v23 : IVec S16 32) (v217 : IVec S16 32) : Prop :=
  (∀ a x, ((![v23, v217] : Fin 2 → IVec S16 32) a x).toNat < S128x256.size a)
theorem k0_idx112_inb : ∀ (v23 : IVec S16 32) (v217 : IVec S16 32) (k0_hw108 : k0_chk108 v23 v217), ∀ a x, ((![v23, v217] : Fin 2 → IVec S16 32) a x).toNat < S128x256.size a := fun v23 v217 k0_hw108 => k0_hw108

def k0_chk109 (v23 : IVec S16 32) (v240 : IVec S16 32) : Prop :=
  (∀ a x, ((![v23, v240] : Fin 2 → IVec S16 32) a x).toNat < S128x256.size a)
theorem k0_idx113_inb : ∀ (v23 : IVec S16 32) (v240 : IVec S16 32) (k0_hw109 : k0_chk109 v23 v240), ∀ a x, ((![v23, v240] : Fin 2 → IVec S16 32) a x).toNat < S128x256.size a := fun v23 v240 k0_hw109 => k0_hw109

def k0_chk110 (v23 : IVec S16 32) (v263 : IVec S16 32) : Prop :=
  (∀ a x, ((![v23, v263] : Fin 2 → IVec S16 32) a x).toNat < S128x256.size a)
theorem k0_idx114_inb : ∀ (v23 : IVec S16 32) (v263 : IVec S16 32) (k0_hw110 : k0_chk110 v23 v263), ∀ a x, ((![v23, v263] : Fin 2 → IVec S16 32) a x).toNat < S128x256.size a := fun v23 v263 k0_hw110 => k0_hw110

def k0_chk111 (v23 : IVec S16 32) (v286 : IVec S16 32) : Prop :=
  (∀ a x, ((![v23, v286] : Fin 2 → IVec S16 32) a x).toNat < S128x256.size a)
theorem k0_idx115_inb : ∀ (v23 : IVec S16 32) (v286 : IVec S16 32) (k0_hw111 : k0_chk111 v23 v286), ∀ a x, ((![v23, v286] : Fin 2 → IVec S16 32) a x).toNat < S128x256.size a := fun v23 v286 k0_hw111 => k0_hw111

def k0_chk112 (v23 : IVec S16 32) (v309 : IVec S16 32) : Prop :=
  (∀ a x, ((![v23, v309] : Fin 2 → IVec S16 32) a x).toNat < S128x256.size a)
theorem k0_idx116_inb : ∀ (v23 : IVec S16 32) (v309 : IVec S16 32) (k0_hw112 : k0_chk112 v23 v309), ∀ a x, ((![v23, v309] : Fin 2 → IVec S16 32) a x).toNat < S128x256.size a := fun v23 v309 k0_hw112 => k0_hw112

def k0_chk113 (v23 : IVec S16 32) (v332 : IVec S16 32) : Prop :=
  (∀ a x, ((![v23, v332] : Fin 2 → IVec S16 32) a x).toNat < S128x256.size a)
theorem k0_idx117_inb : ∀ (v23 : IVec S16 32) (v332 : IVec S16 32) (k0_hw113 : k0_chk113 v23 v332), ∀ a x, ((![v23, v332] : Fin 2 → IVec S16 32) a x).toNat < S128x256.size a := fun v23 v332 k0_hw113 => k0_hw113

def k0_chk114 (v23 : IVec S16 32) (v355 : IVec S16 32) : Prop :=
  (∀ a x, ((![v23, v355] : Fin 2 → IVec S16 32) a x).toNat < S128x256.size a)
theorem k0_idx118_inb : ∀ (v23 : IVec S16 32) (v355 : IVec S16 32) (k0_hw114 : k0_chk114 v23 v355), ∀ a x, ((![v23, v355] : Fin 2 → IVec S16 32) a x).toNat < S128x256.size a := fun v23 v355 k0_hw114 => k0_hw114

def k0_chk115 (v23 : IVec S16 32) (v378 : IVec S16 32) : Prop :=
  (∀ a x, ((![v23, v378] : Fin 2 → IVec S16 32) a x).toNat < S128x256.size a)
theorem k0_idx119_inb : ∀ (v23 : IVec S16 32) (v378 : IVec S16 32) (k0_hw115 : k0_chk115 v23 v378), ∀ a x, ((![v23, v378] : Fin 2 → IVec S16 32) a x).toNat < S128x256.size a := fun v23 v378 k0_hw115 => k0_hw115

def k0_chk116 (v23 : IVec S16 32) (v401 : IVec S16 32) : Prop :=
  (∀ a x, ((![v23, v401] : Fin 2 → IVec S16 32) a x).toNat < S128x256.size a)
theorem k0_idx120_inb : ∀ (v23 : IVec S16 32) (v401 : IVec S16 32) (k0_hw116 : k0_chk116 v23 v401), ∀ a x, ((![v23, v401] : Fin 2 → IVec S16 32) a x).toNat < S128x256.size a := fun v23 v401 k0_hw116 => k0_hw116

def k0_chk117 (v23 : IVec S16 32) (v424 : IVec S16 32) : Prop :=
  (∀ a x, ((![v23, v424] : Fin 2 → IVec S16 32) a x).toNat < S128x256.size a)
theorem k0_idx121_inb : ∀ (v23 : IVec S16 32) (v424 : IVec S16 32) (k0_hw117 : k0_chk117 v23 v424), ∀ a x, ((![v23, v424] : Fin 2 → IVec S16 32) a x).toNat < S128x256.size a := fun v23 v424 k0_hw117 => k0_hw117

def k0_chk118 (v23 : IVec S16 32) (v447 : IVec S16 32) : Prop :=
  (∀ a x, ((![v23, v447] : Fin 2 → IVec S16 32) a x).toNat < S128x256.size a)
theorem k0_idx122_inb : ∀ (v23 : IVec S16 32) (v447 : IVec S16 32) (k0_hw118 : k0_chk118 v23 v447), ∀ a x, ((![v23, v447] : Fin 2 → IVec S16 32) a x).toNat < S128x256.size a := fun v23 v447 k0_hw118 => k0_hw118

def k0_chk119 (v23 : IVec S16 32) (v470 : IVec S16 32) : Prop :=
  (∀ a x, ((![v23, v470] : Fin 2 → IVec S16 32) a x).toNat < S128x256.size a)
theorem k0_idx123_inb : ∀ (v23 : IVec S16 32) (v470 : IVec S16 32) (k0_hw119 : k0_chk119 v23 v470), ∀ a x, ((![v23, v470] : Fin 2 → IVec S16 32) a x).toNat < S128x256.size a := fun v23 v470 k0_hw119 => k0_hw119

def k0_chk120 (v23 : IVec S16 32) (v493 : IVec S16 32) : Prop :=
  (∀ a x, ((![v23, v493] : Fin 2 → IVec S16 32) a x).toNat < S128x256.size a)
theorem k0_idx124_inb : ∀ (v23 : IVec S16 32) (v493 : IVec S16 32) (k0_hw120 : k0_chk120 v23 v493), ∀ a x, ((![v23, v493] : Fin 2 → IVec S16 32) a x).toNat < S128x256.size a := fun v23 v493 k0_hw120 => k0_hw120

def k0_chk121 (v23 : IVec S16 32) (v516 : IVec S16 32) : Prop :=
  (∀ a x, ((![v23, v516] : Fin 2 → IVec S16 32) a x).toNat < S128x256.size a)
theorem k0_idx125_inb : ∀ (v23 : IVec S16 32) (v516 : IVec S16 32) (k0_hw121 : k0_chk121 v23 v516), ∀ a x, ((![v23, v516] : Fin 2 → IVec S16 32) a x).toNat < S128x256.size a := fun v23 v516 k0_hw121 => k0_hw121

def k0_chk122 (v23 : IVec S16 32) (v539 : IVec S16 32) : Prop :=
  (∀ a x, ((![v23, v539] : Fin 2 → IVec S16 32) a x).toNat < S128x256.size a)
theorem k0_idx126_inb : ∀ (v23 : IVec S16 32) (v539 : IVec S16 32) (k0_hw122 : k0_chk122 v23 v539), ∀ a x, ((![v23, v539] : Fin 2 → IVec S16 32) a x).toNat < S128x256.size a := fun v23 v539 k0_hw122 => k0_hw122

def k0_chk123 (v23 : IVec S16 32) (v562 : IVec S16 32) : Prop :=
  (∀ a x, ((![v23, v562] : Fin 2 → IVec S16 32) a x).toNat < S128x256.size a)
theorem k0_idx127_inb : ∀ (v23 : IVec S16 32) (v562 : IVec S16 32) (k0_hw123 : k0_chk123 v23 v562), ∀ a x, ((![v23, v562] : Fin 2 → IVec S16 32) a x).toNat < S128x256.size a := fun v23 v562 k0_hw123 => k0_hw123

def k0_chk124 (v23 : IVec S16 32) (v585 : IVec S16 32) : Prop :=
  (∀ a x, ((![v23, v585] : Fin 2 → IVec S16 32) a x).toNat < S128x256.size a)
theorem k0_idx128_inb : ∀ (v23 : IVec S16 32) (v585 : IVec S16 32) (k0_hw124 : k0_chk124 v23 v585), ∀ a x, ((![v23, v585] : Fin 2 → IVec S16 32) a x).toNat < S128x256.size a := fun v23 v585 k0_hw124 => k0_hw124

def k0_chk125 (v23 : IVec S16 32) (v608 : IVec S16 32) : Prop :=
  (∀ a x, ((![v23, v608] : Fin 2 → IVec S16 32) a x).toNat < S128x256.size a)
theorem k0_idx129_inb : ∀ (v23 : IVec S16 32) (v608 : IVec S16 32) (k0_hw125 : k0_chk125 v23 v608), ∀ a x, ((![v23, v608] : Fin 2 → IVec S16 32) a x).toNat < S128x256.size a := fun v23 v608 k0_hw125 => k0_hw125

def k0_chk126 (v23 : IVec S16 32) (v631 : IVec S16 32) : Prop :=
  (∀ a x, ((![v23, v631] : Fin 2 → IVec S16 32) a x).toNat < S128x256.size a)
theorem k0_idx130_inb : ∀ (v23 : IVec S16 32) (v631 : IVec S16 32) (k0_hw126 : k0_chk126 v23 v631), ∀ a x, ((![v23, v631] : Fin 2 → IVec S16 32) a x).toNat < S128x256.size a := fun v23 v631 k0_hw126 => k0_hw126

def k0_chk127 (v23 : IVec S16 32) (v654 : IVec S16 32) : Prop :=
  (∀ a x, ((![v23, v654] : Fin 2 → IVec S16 32) a x).toNat < S128x256.size a)
theorem k0_idx131_inb : ∀ (v23 : IVec S16 32) (v654 : IVec S16 32) (k0_hw127 : k0_chk127 v23 v654), ∀ a x, ((![v23, v654] : Fin 2 → IVec S16 32) a x).toNat < S128x256.size a := fun v23 v654 k0_hw127 => k0_hw127

def k0_chk128 (v23 : IVec S16 32) (v677 : IVec S16 32) : Prop :=
  (∀ a x, ((![v23, v677] : Fin 2 → IVec S16 32) a x).toNat < S128x256.size a)
theorem k0_idx132_inb : ∀ (v23 : IVec S16 32) (v677 : IVec S16 32) (k0_hw128 : k0_chk128 v23 v677), ∀ a x, ((![v23, v677] : Fin 2 → IVec S16 32) a x).toNat < S128x256.size a := fun v23 v677 k0_hw128 => k0_hw128

def k0_chk129 (v23 : IVec S16 32) (v700 : IVec S16 32) : Prop :=
  (∀ a x, ((![v23, v700] : Fin 2 → IVec S16 32) a x).toNat < S128x256.size a)
theorem k0_idx133_inb : ∀ (v23 : IVec S16 32) (v700 : IVec S16 32) (k0_hw129 : k0_chk129 v23 v700), ∀ a x, ((![v23, v700] : Fin 2 → IVec S16 32) a x).toNat < S128x256.size a := fun v23 v700 k0_hw129 => k0_hw129

def k0_chk130 (v23 : IVec S16 32) (v723 : IVec S16 32) : Prop :=
  (∀ a x, ((![v23, v723] : Fin 2 → IVec S16 32) a x).toNat < S128x256.size a)
theorem k0_idx134_inb : ∀ (v23 : IVec S16 32) (v723 : IVec S16 32) (k0_hw130 : k0_chk130 v23 v723), ∀ a x, ((![v23, v723] : Fin 2 → IVec S16 32) a x).toNat < S128x256.size a := fun v23 v723 k0_hw130 => k0_hw130

def k0_chk131 (v23 : IVec S16 32) (v746 : IVec S16 32) : Prop :=
  (∀ a x, ((![v23, v746] : Fin 2 → IVec S16 32) a x).toNat < S128x256.size a)
theorem k0_idx135_inb : ∀ (v23 : IVec S16 32) (v746 : IVec S16 32) (k0_hw131 : k0_chk131 v23 v746), ∀ a x, ((![v23, v746] : Fin 2 → IVec S16 32) a x).toNat < S128x256.size a := fun v23 v746 k0_hw131 => k0_hw131

def k0_chk132 (v23 : IVec S16 32) (v769 : IVec S16 32) : Prop :=
  (∀ a x, ((![v23, v769] : Fin 2 → IVec S16 32) a x).toNat < S128x256.size a)
theorem k0_idx136_inb : ∀ (v23 : IVec S16 32) (v769 : IVec S16 32) (k0_hw132 : k0_chk132 v23 v769), ∀ a x, ((![v23, v769] : Fin 2 → IVec S16 32) a x).toNat < S128x256.size a := fun v23 v769 k0_hw132 => k0_hw132
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_cell" => some ((8388608 / 5033165 : ℝ) : EReal)
  | _ => none
-- ==== ReferenceIdeal.lean ====
abbrev S32x512x128 : Shape := ⟨3, ![32, 512, 128]⟩
abbrev S32x512x2 : Shape := ⟨3, ![32, 512, 2]⟩
abbrev S128x256 : Shape := ⟨2, ![128, 256]⟩
abbrev S128 : Shape := ⟨1, ![128]⟩
abbrev S_ : Shape := ⟨0, ![]⟩
abbrev S32x512 : Shape := ⟨2, ![32, 512]⟩
abbrev S32x512x1 : Shape := ⟨3, ![32, 512, 1]⟩
abbrev S32x1x512x2 : Shape := ⟨4, ![32, 1, 512, 2]⟩
abbrev S32x512x1x2 : Shape := ⟨4, ![32, 512, 1, 2]⟩
abbrev S32x512x512x2 : Shape := ⟨4, ![32, 512, 512, 2]⟩
abbrev S512 : Shape := ⟨1, ![512]⟩
abbrev S512x1 : Shape := ⟨2, ![512, 1]⟩
abbrev S511 : Shape := ⟨1, ![511]⟩
abbrev S1x511 : Shape := ⟨2, ![1, 511]⟩
abbrev S512x511 : Shape := ⟨2, ![512, 511]⟩
abbrev S512x511x1 : Shape := ⟨3, ![512, 511, 1]⟩
abbrev S512x511x2 : Shape := ⟨3, ![512, 511, 2]⟩
abbrev S32x512x511x2 : Shape := ⟨4, ![32, 512, 511, 2]⟩
abbrev S32x512x511 : Shape := ⟨3, ![32, 512, 511]⟩
abbrev S32x512x511x1 : Shape := ⟨4, ![32, 512, 511, 1]⟩
abbrev S32 : Shape := ⟨1, ![32]⟩
abbrev S32x1x1 : Shape := ⟨3, ![32, 1, 1]⟩
abbrev S1x512x1 : Shape := ⟨3, ![1, 512, 1]⟩
abbrev S32x512x256 : Shape := ⟨3, ![32, 512, 256]⟩
abbrev S32x512x511x3 : Shape := ⟨4, ![32, 512, 511, 3]⟩
abbrev S16384x256 : Shape := ⟨2, ![16384, 256]⟩
abbrev S256x128 : Shape := ⟨2, ![256, 128]⟩
abbrev S16384x128 : Shape := ⟨2, ![16384, 128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S32x512x128, .f32⟩
  | 1 => ⟨S32x512x2, .f32⟩
  | 2 => ⟨S32x512x2, .f32⟩
  | 3 => ⟨S128x256, .f32⟩
  | 4 => ⟨S128, .f32⟩
  | 5 => ⟨S32x512x2, .i1⟩
  | 6 => ⟨S_, .i1⟩
  | 7 => ⟨S32x512, .i1⟩
  | 8 => ⟨S32x512x1, .i1⟩
  | 9 => ⟨S_, .f32⟩
  | 10 => ⟨S_, .f32⟩
  | 11 => ⟨S32x512x2, .i1⟩
  | 12 => ⟨S32x512x2, .f32⟩
  | 13 => ⟨S32x512x2, .f32⟩
  | 14 => ⟨S32x1x512x2, .f32⟩
  | 15 => ⟨S32x512x1x2, .f32⟩
  | 16 => ⟨S32x512x512x2, .f32⟩
  | 17 => ⟨S32x512x512x2, .f32⟩
  | 18 => ⟨S32x512x512x2, .f32⟩
  | 19 => ⟨S512, .i32⟩
  | 20 => ⟨S512x1, .i32⟩
  | 21 => ⟨S511, .i32⟩
  | 22 => ⟨S1x511, .i32⟩
  | 23 => ⟨S512x511, .i32⟩
  | 24 => ⟨S512x511, .i32⟩
  | 25 => ⟨S512x511, .i1⟩
  | 26 => ⟨S512x511, .i32⟩
  | 27 => ⟨S512x511, .i32⟩
  | 28 => ⟨S512x511, .i32⟩
  | 29 => ⟨S_, .i32⟩
  | 30 => ⟨S512x1, .i32⟩
  | 31 => ⟨S512x1, .i1⟩
  | 32 => ⟨S_, .i32⟩
  | 33 => ⟨S512x1, .i32⟩
  | 34 => ⟨S512x1, .i32⟩
  | 35 => ⟨S512x1, .i32⟩
  | 36 => ⟨S_, .i32⟩
  | 37 => ⟨S512x511, .i32⟩
  | 38 => ⟨S512x511, .i1⟩
  | 39 => ⟨S_, .i32⟩
  | 40 => ⟨S512x511, .i32⟩
  | 41 => ⟨S512x511, .i32⟩
  | 42 => ⟨S512x511, .i32⟩
  | 43 => ⟨S512x511, .i32⟩
  | 44 => ⟨S512x511x1, .i32⟩
  | 45 => ⟨S512x511x1, .i32⟩
  | 46 => ⟨S512x511x2, .i32⟩
  | 47 => ⟨S32x512x511x2, .f32⟩
  | 48 => ⟨S_, .f32⟩
  | 49 => ⟨S32x512x511x2, .f32⟩
  | 50 => ⟨S32x512x511x2, .f32⟩
  | 51 => ⟨S_, .f32⟩
  | 52 => ⟨S32x512x511x2, .f32⟩
  | 53 => ⟨S32x512x511x2, .f32⟩
  | 54 => ⟨S_, .f32⟩
  | 55 => ⟨S32x512x511x2, .f32⟩
  | 56 => ⟨S32x512x511x2, .i1⟩
  | 57 => ⟨S_, .f32⟩
  | 58 => ⟨S32x512x511x2, .f32⟩
  | 59 => ⟨S32x512x511x2, .i1⟩
  | 60 => ⟨S32x512x511x2, .i1⟩
  | 61 => ⟨S32x512x511x2, .i32⟩
  | 62 => ⟨S_, .i32⟩
  | 63 => ⟨S32x512x511, .i32⟩
  | 64 => ⟨S_, .i32⟩
  | 65 => ⟨S32x512x511, .i32⟩
  | 66 => ⟨S32x512x511, .i1⟩
  | 67 => ⟨S32x512x511x1, .i1⟩
  | 68 => ⟨S_, .f32⟩
  | 69 => ⟨S_, .f32⟩
  | 70 => ⟨S32x512x511x2, .i1⟩
  | 71 => ⟨S32x512x511x2, .f32⟩
  | 72 => ⟨S32x512x511x2, .f32⟩
  | 73 => ⟨S_, .i32⟩
  | 74 => ⟨S_, .i32⟩
  | 75 => ⟨S32x512x511, .i32⟩
  | 76 => ⟨S32x512x511, .i32⟩
  | 77 => ⟨S32x512x511, .i32⟩
  | 78 => ⟨S32x512x511x2, .f32⟩
  | 79 => ⟨S32x512x511x2, .i32⟩
  | 80 => ⟨S32x512x511x1, .i32⟩
  | 81 => ⟨S32x512x511, .i32⟩
  | 82 => ⟨S_, .i32⟩
  | 83 => ⟨S32x512x511, .i32⟩
  | 84 => ⟨S32x512x511, .i32⟩
  | 85 => ⟨S32x512x511x1, .i32⟩
  | 86 => ⟨S32x512x511, .i32⟩
  | 87 => ⟨S32x512x511, .i32⟩
  | 88 => ⟨S32, .i32⟩
  | 89 => ⟨S32x1x1, .i32⟩
  | 90 => ⟨S512, .i32⟩
  | 91 => ⟨S1x512x1, .i32⟩
  | 92 => ⟨S_, .i32⟩
  | 93 => ⟨S32x512x256, .i32⟩
  | 94 => ⟨S_, .i32⟩
  | 95 => ⟨S32x1x1, .i32⟩
  | 96 => ⟨S32x1x1, .i1⟩
  | 97 => ⟨S_, .i32⟩
  | 98 => ⟨S32x1x1, .i32⟩
  | 99 => ⟨S32x1x1, .i32⟩
  | 100 => ⟨S32x1x1, .i32⟩
  | 101 => ⟨S_, .i32⟩
  | 102 => ⟨S1x512x1, .i32⟩
  | 103 => ⟨S1x512x1, .i1⟩
  | 104 => ⟨S_, .i32⟩
  | 105 => ⟨S1x512x1, .i32⟩
  | 106 => ⟨S1x512x1, .i32⟩
  | 107 => ⟨S1x512x1, .i32⟩
  | 108 => ⟨S_, .i32⟩
  | 109 => ⟨S32x512x511, .i32⟩
  | 110 => ⟨S32x512x511, .i1⟩
  | 111 => ⟨S_, .i32⟩
  | 112 => ⟨S32x512x511, .i32⟩
  | 113 => ⟨S32x512x511, .i32⟩
  | 114 => ⟨S32x512x511, .i32⟩
  | 115 => ⟨S32x512x511, .i32⟩
  | 116 => ⟨S32x512x511, .i32⟩
  | 117 => ⟨S32x512x511x1, .i32⟩
  | 118 => ⟨S32x512x511x1, .i32⟩
  | 119 => ⟨S32x512x511x1, .i32⟩
  | 120 => ⟨S32x512x511x3, .i32⟩
  | 121 => ⟨S32x512x511, .i32⟩
  | 122 => ⟨S32x512x256, .i32⟩
  | 123 => ⟨S32x512x256, .f32⟩
  | 124 => ⟨S16384x256, .f32⟩
  | 125 => ⟨S256x128, .f32⟩
  | 126 => ⟨S16384x128, .f32⟩
  | 127 => ⟨S1x128, .f32⟩
  | _ => ⟨S32x512x128, .f32⟩

abbrev hbmTy0_1 (i : Nat) : BufTy := match i % 128 with
  | 0 => ⟨S16384x128, .f32⟩
  | 1 => ⟨S16384x128, .f32⟩
  | 2 => ⟨S_, .f32⟩
  | 3 => ⟨S16384x128, .f32⟩
  | 4 => ⟨S16384x128, .f32⟩
  | _ => ⟨S32x512x128, .f32⟩

abbrev hbmTy (i : Nat) : BufTy := match i / 128 with
  | 0 => hbmTy0_0 i
  | 1 => hbmTy0_1 i
  | _ => ⟨S32x512x128, .f32⟩

abbrev bufTy : (tb : Table) → Fin (tcTables nBuf tb) → BufTy
  | .hbm, ⟨i, _⟩ => hbmTy i
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v48 : Ref sig .tc := ⟨.hbm, 72, rfl⟩
abbrev main_c_11 : Ref sig .tc := ⟨.hbm, 73, rfl⟩
abbrev main_c_12 : Ref sig .tc := ⟨.hbm, 74, rfl⟩
abbrev main_call2_v0 : Ref sig .tc := ⟨.hbm, 75, rfl⟩
abbrev main_call2_v1 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Proof.Trip.lean ====
/-
  One tile's kernel in a form a proof can recurse over. The printed kernel spells every one of the 32 lane groups of a
  track, every one of the 16 strips of a cleared row and each of the four chunks of 128 tracks apart; here each is ONE
  program over its number, and the printed loop bodies are shown to be these programs.
-/
module

public import proofs.«01_k».proof.Defs
public import proofs.«01_k».proof.Proof.Gen.KernelIdeal
public import proofs.«01_k».proof.Proof.Gen.KernelIdeal.Skeleton

@[expose] public section

noncomputable section

namespace Cert.Proof.Trip

open Cert.KernelIdeal Cert.KernelIdeal.Gen
open Idealize.ShloMosaic Idealize.SL.Sem

variable {F : FTy → Type} [FloatOps F] [Named F]

/-- Programs of the tile at grid point `i`. -/
abbrev TP (F : FTy → Type) [FloatOps F] [Named F] (i : grid0.Coords) (α : Type) : Type 1 :=
  Prog (TpuEff nD τ sig (Elt F) Λ₀ (.scVector ((i 0).castLE hcore0) ((i 1).castLE hsub0))) α

/-! ## A track's lane group -/

/-- The cell number that lane group's relative positions `tx`, `ty` fall in, reduced to the row's 256 words. -/
def cellOf (tx ty : FVec F S16 .f32) : IVec S16 32 :=
  andi (addi (muli (fptosi 32 tx) (broadcast S16 16#32)) (fptosi 32 ty)) (broadcast S16 255#32)

/-- Which lanes of group `j` are stored: those in range of the 16 × 16 grid that are not the track itself. -/
def keepOf (lane : IVec S16 1) (grp : BitVec 32) (j : Nat) (tx ty : FVec F S16 .f32) : IVec S16 1 :=
  andi (andi (cmpf .oge (minimumf tx ty) (broadcast S16 (Scalar.ofBits .f32 0x00000000#32)))
      (cmpi .slt (ori (fptosi 32 tx) (fptosi 32 ty)) (broadcast S16 16#32)))
    (xori (andi (broadcast S16 (Scalar.cmpi .eq grp (BitVec.ofNat 32 j))) lane) (constantI S16 1 1#1))

theorem strip_inb (j : Fin 32) : ∀ a, (![16 * j.val] : Fin 1 → Nat) a + S16.size a ≤ S512.size a := by
  revert j; decide

/-- Lane group `j` of a track: the 16 neighbours' positions, and a one stored in the track's row at each kept lane's
    cell. -/
def group (i : grid0.Coords) (xs ys : Memref sig .scVector .vmem S512 .f32) (occ : Memref sig .scVector .vmem S128x256 .f32)
    (ones : FVec F S16 .f32) (row : IVec S16 32) (x0 y0 : FVec F S16 .f32) (lane : IVec S16 1) (grp : BitVec 32) (j : Fin 32) : TP F i PUnit := do
  let x : Vec F S16 .f32 ← Prog.lift (.load xs (Rect.unit (s := S512) ![16 * j.val] S16.size (strip_inb j)).toLoadRect (View.loadsAt_vmem h_S16))
  let y : Vec F S16 .f32 ← Prog.lift (.load ys (Rect.unit (s := S512) ![16 * j.val] S16.size (strip_inb j)).toLoadRect (View.loadsAt_vmem h_S16))
  have hw : k0_chk2 row (cellOf (subf x x0) (subf y y0)) :=
    (← Prog.lift (TpuEff.assume (k0_chk2 row (cellOf (subf x x0) (subf y y0))) (k0_chk2.dec row (cellOf (subf x x0) (subf y y0))))).down
  SparseCore.vectorStoreIdx occ ![row, cellOf (subf x x0) (subf y y0)] ones (keepOf lane grp j.val (subf x x0) (subf y y0)) false
    (k0_idx3_inb _ _ hw) (View.stores_vmem_bits_univ h_S128x256 rfl)

/-- The lane groups of the list `js`, in order. -/
def groups (i : grid0.Coords) (xs ys : Memref sig .scVector .vmem S512 .f32) (occ : Memref sig .scVector .vmem S128x256 .f32)
    (ones : FVec F S16 .f32) (row : IVec S16 32) (x0 y0 : FVec F S16 .f32) (lane : IVec S16 1) (grp : BitVec 32) : List (Fin 32) → TP F i PUnit
  | [] => pure ⟨⟩
  | j :: js => do group i xs ys occ ones row x0 y0 lane grp j; groups i xs ys occ ones row x0 y0 lane grp js

/-- All 32 lane groups, in order, spelt. -/
def all32 : List (Fin 32) := [0, 1, 2, 3, 4, 5, 6, 7, 8, 9, 10, 11, 12, 13, 14, 15, 16, 17, 18, 19, 20, 21, 22, 23, 24, 25, 26, 27, 28, 29, 30, 31]

/-- The track at word `t` of the staged coordinates, its row of the staged occupancy `row`. -/
def trackAt (i : grid0.Coords) (xs ys : Memref sig .scVector .vmem S512 .f32) (occ : Memref sig .scVector .vmem S128x256 .f32)
    (ones : FVec F S16 .f32) (lanes : IVec S16 32) (row t : BitVec 32) : TP F i Unit := do
  have hw : k0_chk1 (broadcast S16 t) := (← Prog.lift (TpuEff.assume (k0_chk1 (broadcast S16 t)) (k0_chk1.dec (broadcast S16 t)))).down
  let x : Vec F S16 .f32 ← SparseCore.vectorLoadIdx xs ![broadcast S16 t] (k0_idx1_inb _ hw) (View.loads_vmem h_S512)
  let y : Vec F S16 .f32 ← SparseCore.vectorLoadIdx ys ![broadcast S16 t] (k0_idx2_inb _ hw) (View.loads_vmem h_S512)
  groups i xs ys occ ones (broadcast S16 row) (subf x (broadcast S16 (Scalar.ofBits .f32 0x41000000#32)))
    (subf y (broadcast S16 (Scalar.ofBits .f32 0x41000000#32)))
    (cmpi .eq lanes (broadcast S16 (Scalar.remsi t 16#32))) (Scalar.divsi t 16#32) all32
  pure ()

/-- The row of its chunk that trip `k` works on. -/
def rowBit (k : Fin k0_t3_loop.trips) : BitVec 32 := Scalar.addi 0#32 (Scalar.muli (Scf.iv 0#32 1#32 k) 1#32)

/-- The track whose row is `k` of the chunk that begins at track `c`. -/
def track (i : grid0.Coords) (xs ys : Memref sig .scVector .vmem S512 .f32) (occ : Memref sig .scVector .vmem S128x256 .f32)
    (ones : FVec F S16 .f32) (lanes : IVec S16 32) (c : BitVec 32) (k : Fin k0_t3_loop.trips) : TP F i Unit :=
  trackAt i xs ys occ ones lanes (rowBit k) (Scalar.addi c (rowBit k))

/-! ## Clearing a row -/

def rowOff (k : Fin k0_t3_loop.trips) (j : Nat) : Fin 2 → Nat :=
  ![(Scalar.indexCast (Scalar.addi 0#32 (Scalar.muli (Scf.iv 0#32 1#32 k) 1#32))).toNat, 16 * j]

theorem row_inb : ∀ (k : Fin k0_t3_loop.trips) (j : Fin 16), ∀ a, (rowOff k j.val) a + S1x16.size a ≤ S128x256.size a := by
  decide

def strip (i : grid0.Coords) (occ : Memref sig .scVector .vmem S128x256 .f32) (zero : FVec F S16 .f32) (k : Fin k0_t3_loop.trips) (j : Fin 16) :
    TP F i PUnit := do
  let _ : Vec F S1x16 .f32 ← Prog.lift (.load occ (Rect.unit (s := S128x256) (rowOff k j.val) S1x16.size (row_inb k j)).toLoadRect (View.loadsAt_vmem h_S1x16))
  Prog.lift (.store occ (Rect.unit (s := S128x256) (rowOff k j.val) S1x16.size (row_inb k j)) (shapeCast S1x16 zero shapeCasts_S16_S1x16) Finset.univ (View.stores_vmem_bits_univ h_S1x16 rfl) (.inl rfl))

def strips (i : grid0.Coords) (occ : Memref sig .scVector .vmem S128x256 .f32) (zero : FVec F S16 .f32) (k : Fin k0_t3_loop.trips) : List (Fin 16) → TP F i PUnit
  | [] => pure ⟨⟩
  | j :: js => do strip i occ zero k j; strips i occ zero k js

def all16 : List (Fin 16) := [0, 1, 2, 3, 4, 5, 6, 7, 8, 9, 10, 11, 12, 13, 14, 15]

/-- Row `k` of the tile's occupancy cleared, strip by strip. -/
def clear (i : grid0.Coords) (occ : Memref sig .scVector .vmem S128x256 .f32) (zero : FVec F S16 .f32) (k : Fin k0_t3_loop.trips) : TP F i Unit := do
  strips i occ zero k all16
  pure ()

/-! ## The tile's program -/

/-- Sixteen of the staged x coordinates multiplied by the cell scale, and sixteen of the y coordinates. -/
def scale (i : grid0.Coords) (xs ys : Memref sig .scVector .vmem S512 .f32) (k : Fin k0_t1_loop.trips) : TP F i Unit := do
  let x : Vec F S16 .f32 ← Prog.lift (.load xs (Rect.unit (s := S512) (k0_off2 k) S16.size (k0_off2_inb k)).toLoadRect (View.loadsAt_vmem h_S16))
  let _ : Vec F S16 .f32 ← Prog.lift (.load xs (Rect.unit (s := S512) (k0_off2 k) S16.size (k0_off2_inb k)).toLoadRect (View.loadsAt_vmem h_S16))
  Prog.lift (.store xs (Rect.unit (s := S512) (k0_off2 k) S16.size (k0_off2_inb k)) (k0_pay833 x) Finset.univ (View.stores_vmem_bits_univ h_S16 rfl) (.inl rfl))
  let y : Vec F S16 .f32 ← Prog.lift (.load ys (Rect.unit (s := S512) (k0_off2 k) S16.size (k0_off2_inb k)).toLoadRect (View.loadsAt_vmem h_S16))
  let _ : Vec F S16 .f32 ← Prog.lift (.load ys (Rect.unit (s := S512) (k0_off2 k) S16.size (k0_off2_inb k)).toLoadRect (View.loadsAt_vmem h_S16))
  Prog.lift (.store ys (Rect.unit (s := S512) (k0_off2 k) S16.size (k0_off2_inb k)) (k0_pay834 y) Finset.univ (View.stores_vmem_bits_univ h_S16 rfl) (.inl rfl))
  pure ()

/-- The tile's 512 words of a flat coordinate array, copied to a staging buffer. -/
def fetch (i : grid0.Coords) (src : Memref sig .scVector .hbm S16384 .f32) (dst : Memref sig .scVector .vmem S512 .f32) (hdst : dst.IsWhole)
    (r : DmaSems sig S_) : TP F i PUnit := do
  Prog.lift (.enqueueDma (src.slice (Rect.unit (s := S16384) (k0_off1 i) S512.size (k0_off1_inb i)) (fun _ => rfl)) (.here dst) (.dma r.sem) (View.wordExact_bits rfl) hdst.wordExact ⟨Or.inl rfl, trivial⟩)
  Prog.lift (.waitDma2 r.sem (src.slice (Rect.unit (s := S16384) (k0_off1 i) S512.size (k0_off1_inb i)) (fun _ => rfl)) dst (View.wordExact_bits rfl) hdst.wordExact)

/-- The 128 rows of the tile's result that chunk `n` writes. -/
abbrev rowsOf (i : grid0.Coords) (dst : Memref sig .scVector .hbm S16384x256 .f32) (n : Fin 4) : Memref sig .scVector .hbm S128x256 .f32 :=
  dst.slice (Rect.unit (s := S16384x256) (k0_off19 i (BitVec.ofNat 32 (128 * n.val))) S128x256.size (k0_off19_inb i n)) (fun _ => rfl)

/-- The staged rows copied out to chunk `n`'s rows of the result. -/
def writeback (i : grid0.Coords) (occ : Memref sig .scVector .vmem S128x256 .f32) (hocc : occ.IsWhole) (dst : Memref sig .scVector .hbm S16384x256 .f32)
    (r : DmaSems sig S_) (n : Fin 4) : TP F i PUnit := do
  Prog.lift (.enqueueDma occ (.here (rowsOf i dst n)) (.dma r.sem) hocc.wordExact (View.wordExact_bits rfl) ⟨Or.inl rfl, trivial⟩)
  Prog.lift (.waitDma2 r.sem occ (rowsOf i dst n) hocc.wordExact (View.wordExact_bits rfl))

/-- Chunk `n`: the staged rows cleared, the chunk's 128 tracks, the rows copied out. -/
def chunk (i : grid0.Coords) (dst : Memref sig .scVector .hbm S16384x256 .f32) (xs ys : Memref sig .scVector .vmem S512 .f32)
    (occ : Memref sig .scVector .vmem S128x256 .f32) (hocc : occ.IsWhole) (r : DmaSems sig S_) (n : Fin 4) : TP F i PUnit := do
  Scf.Loop.for k0_t2_loop k0_t2_ok ⟨⟩ fun k _ => clear i occ k0_pay836 k
  Scf.Loop.for k0_t3_loop k0_t3_ok ⟨⟩ fun k _ =>
    track i xs ys occ k0_pay835 (iota .scVector S16 32 [0] iota_S16_d0_w32_scVector) (BitVec.ofNat 32 (128 * n.val)) k
  writeback i occ hocc dst r n

/-- The tile's whole kernel: the two fetches, the scaling, the four chunks. -/
def tile (i : grid0.Coords) (arg2 arg3 : Memref sig .scVector .hbm S16384 .f32) (arg4 : Memref sig .scVector .hbm S16384x256 .f32)
    (xs : Memref sig .scVector .vmem S512 .f32) (hxs : xs.IsWhole) (ys : Memref sig .scVector .vmem S512 .f32) (hys : ys.IsWhole)
    (occ : Memref sig .scVector .vmem S128x256 .f32) (hocc : occ.IsWhole) (r0 r1 r2 r3 r4 r5 : DmaSems sig S_) : TP F i PUnit := do
  fetch i arg2 xs hxs r0
  fetch i arg3 ys hys r1
  Scf.Loop.for k0_t1_loop k0_t1_ok ⟨⟩ fun k _ => scale i xs ys k
  chunk i arg4 xs ys occ hocc r2 0
  chunk i arg4 xs ys occ hocc r3 1
  chunk i arg4 xs ys occ hocc r4 2
  chunk i arg4 xs ys occ hocc r5 3

/-! ## The printed kernel is this program -/

section Eq

variable (i : grid0.Coords) (arg2 : Memref sig .scVector .hbm S16384 .f32) (harg2 : arg2.IsWhole) (arg3 : Memref sig .scVector .hbm S16384 .f32) (harg3 : arg3.IsWhole)
  (arg4 : Memref sig .scVector .hbm S16384x256 .f32) (harg4 : arg4.IsWhole) (arg5 : Memref sig .scVector .vmem S512 .f32) (harg5 : arg5.IsWhole)
  (arg6 : Memref sig .scVector .vmem S512 .f32) (harg6 : arg6.IsWhole) (arg7 : Memref sig .scVector .vmem S128x256 .f32) (harg7 : arg7.IsWhole)
  (r0 r1 r2 r3 r4 r5 : DmaSems sig S_)

set_option maxRecDepth 65536 in
/-- The printed kernel is `tile`: its loops one by one, the operations between them as they stand. -/
theorem body_eq :
    cc0__occupancy_body (F := F) i arg2 harg2 arg3 harg3 arg4 harg4 arg5 harg5 arg6 harg6 arg7 harg7 r0 r1 r2 r3 r4 r5
      = tile i arg2 arg3 arg4 arg5 harg5 arg6 harg6 arg7 harg7 r0 r1 r2 r3 r4 r5 := by
  simp only [cc0__occupancy_body_eq_skeleton]
  unfold cc0__occupancy_body_skel
  simp only [k0_part77_eq_skeleton, k0_part78_eq_skeleton]
  unfold k0_part77_skel k0_part78_skel tile chunk fetch writeback
  simp only [Prog.lift, Prog.bind_op, Prog.bind_ret, Prog.pure_eq_ret, Prog.bind_assoc]
  rfl

end Eq

end Cert.Proof.Trip

end
-- ==== Proof.Values.lean ====
/-
  What a tile computes, apart from how it runs: the contents of its three staging buffers after each step of its program.
-/
module

public import proofs.«01_k».proof.Proof.Trip

@[expose] public section

noncomputable section

namespace Cert.Proof.Values

open Cert.KernelIdeal Cert.KernelIdeal.Gen Cert.Proof.Trip
open Idealize.ShloMosaic Idealize.SL.Sem

variable {F : FTy → Type} [FloatOps F] [Named F]

/-- Word `n` of a 512-word array. -/
def ix (n : Fin 512) : S512.Idx := Shape.ofLane (d := ![512]) n

omit [FloatOps F] [Named F] in
theorem ix_val (n : Fin 512) (a : Fin 1) : ((ix n) a).val = n.val := rfl

/-- The sixteen words of lane group `j`. -/
def lanes (X : Vec F S512 .f32) (j : Fin 32) : FVec F S16 .f32 :=
  fun x => X (ix ⟨16 * j.val + (x 0).val, by have := j.isLt; have : (x 0).val < 16 := (x 0).isLt; omega⟩)

/-- One coordinate of track `t`, less the eight cells that centre its grid, in every lane. -/
def centre (X : Vec F S512 .f32) (t : Fin 512) : FVec F S16 .f32 :=
  subf (fun _ => X (ix t)) (broadcast S16 (Scalar.ofBits .f32 0x41000000#32))

/-- The lane of its group that track `t` itself stands in. -/
def selfLane (t : Fin 512) : IVec S16 1 :=
  cmpi .eq (iota .scVector S16 32 [0] iota_S16_d0_w32_scVector) (broadcast S16 (Scalar.remsi (BitVec.ofNat 32 t.val) 16#32))

/-- Lane `l` of group `j` is stored for track `t`. -/
def kept (X Y : Vec F S512 .f32) (t : Fin 512) (j : Fin 32) : IVec S16 1 :=
  keepOf (selfLane t) (Scalar.divsi (BitVec.ofNat 32 t.val) 16#32) j.val (subf (lanes X j) (centre X t)) (subf (lanes Y j) (centre Y t))

/-- The cell that lane `l` of group `j` falls in. -/
def cells (X Y : Vec F S512 .f32) (t : Fin 512) (j : Fin 32) : IVec S16 32 :=
  cellOf (subf (lanes X j) (centre X t)) (subf (lanes Y j) (centre Y t))

/-- Some stored lane of group `j` falls in cell `q` of track `t`'s grid. -/
def hitIn (X Y : Vec F S512 .f32) (t : Fin 512) (j : Fin 32) (q : Nat) : Prop :=
  ∃ l : S16.Idx, kept X Y t j l = 1 ∧ (cells X Y t j l).toNat = q

/-- Some neighbour of track `t` falls in cell `q` of its grid. -/
def hit (X Y : Vec F S512 .f32) (t : Fin 512) (q : Nat) : Prop := ∃ j : Fin 32, hitIn X Y t j q

/-- The occupancy words: one, and zero. -/
abbrev one : F .f32 := Scalar.ofBits .f32 0x3F800000#32
abbrev nil : F .f32 := Scalar.ofBits .f32 0x00000000#32

/-! ## The indexed store of one word -/

/-- A fold of steps, step `k` putting `c` at `i` if `hits k` and leaving `i` else: `c` at `i` if some step hits it, the
    old contents else. -/
theorem fold_store {β γ κ : Type} (i : β) (c : γ) (hits : κ → Prop) (step : (β → γ) → κ → β → γ)
    (hstep : ∀ g k, (hits k → step g k i = c) ∧ (¬ hits k → step g k i = g i)) : ∀ (ks : List κ) (f : β → γ),
    ((∃ k ∈ ks, hits k) → ks.foldl step f i = c) ∧ ((¬ ∃ k ∈ ks, hits k) → ks.foldl step f i = f i) := by
  intro ks
  induction ks with
  | nil => intro f; simp
  | cons k ks ih =>
    intro f
    rw [List.foldl_cons]
    simp only [List.mem_cons, exists_eq_or_imp]
    have hi := ih (step f k)
    have hs := hstep f k
    by_cases h1 : ∃ k ∈ ks, hits k
    · exact ⟨fun _ => hi.1 h1, fun h => absurd (Or.inr h1) h⟩
    · exact ⟨fun h => (hi.2 h1).trans (hs.1 (h.resolve_right h1)), fun h => (hi.2 h1).trans (hs.2 fun h' => h (Or.inl h'))⟩

/-- An indexed store of one word `c`: `c` where some kept lane's index points, the old contents elsewhere. -/
theorem storeIdx_const {d : Fin 1 → Nat} {s : Shape} {e : EltTy} (f : Vec F s e) (idxs : Fin s.rank → IVec ⟨1, d⟩ 32) (c : Elt F e) (mask : IVec ⟨1, d⟩ 1)
    (h : ∀ a x, (idxs a x).toNat < s.size a) (i : s.Idx) :
    ((∃ x, mask x = 1 ∧ ∀ a, (i a).val = (idxs a x).toNat) → storeIdx f idxs (fun _ => c) mask false h i = c)
      ∧ ((¬ ∃ x, mask x = 1 ∧ ∀ a, (i a).val = (idxs a x).toNat) → storeIdx f idxs (fun _ => c) mask false h i = f i) := by
  have hx : ∀ x : (⟨1, d⟩ : Shape).Idx, Shape.ofLane (d := d) (x 0) = x := by
    intro x; funext a; obtain rfl : a = 0 := Subsingleton.elim _ _; rfl
  have hf : ((∃ k ∈ List.finRange (d 0), mask (Shape.ofLane k) = 1 ∧ ∀ a, (i a).val = (idxs a (Shape.ofLane k)).toNat)
        → storeIdx f idxs (fun _ => c) mask false h i = c)
      ∧ ((¬ ∃ k ∈ List.finRange (d 0), mask (Shape.ofLane k) = 1 ∧ ∀ a, (i a).val = (idxs a (Shape.ofLane k)).toNat)
        → storeIdx f idxs (fun _ => c) mask false h i = f i) := by
    unfold storeIdx
    refine fold_store i c (fun k : Fin (d 0) => mask (Shape.ofLane k) = 1 ∧ ∀ a, (i a).val = (idxs a (Shape.ofLane k)).toNat)
      _ (fun g k => ⟨fun hk => ?_, fun hk => ?_⟩) (List.finRange (d 0)) f
    · exact (congrFun (if_pos hk.1) i).trans (if_pos hk.2)
    · by_cases hm : mask (Shape.ofLane k) = 1
      · exact (congrFun (if_pos hm) i).trans (if_neg fun h' => hk ⟨hm, h'⟩)
      · exact congrFun (if_neg hm) i
  refine ⟨fun ⟨x, h1, h2⟩ => hf.1 ⟨x 0, List.mem_finRange _, by rw [hx]; exact ⟨h1, h2⟩⟩, fun hn => hf.2 ?_⟩
  rintro ⟨k, -, h1⟩
  exact hn ⟨_, h1⟩

/-! ## The buffers after each step -/

theorem rowBit_eq : ∀ k : Fin k0_t3_loop.trips, rowBit k = BitVec.ofNat 32 k.val := by decide
theorem trips_eq : k0_t3_loop.trips = 128 := by decide
theorem rowBit_toNat (k : Fin k0_t3_loop.trips) : (rowBit k).toNat = k.val := by
  rw [rowBit_eq, BitVec.toNat_ofNat]
  have := k.isLt; have := trips_eq; omega

/-- Track `k` of chunk `n`. -/
def trk (n : Fin 4) (k : Fin k0_t3_loop.trips) : Fin 512 :=
  ⟨128 * n.val + k.val, by have := n.isLt; have := k.isLt; have := trips_eq; omega⟩

theorem trkBit (n : Fin 4) (k : Fin k0_t3_loop.trips) :
    Scalar.addi (BitVec.ofNat 32 (128 * n.val)) (rowBit k) = BitVec.ofNat 32 (trk n k).val := by
  rw [rowBit_eq]
  show BitVec.ofNat 32 (128 * n.val) + BitVec.ofNat 32 k.val = BitVec.ofNat 32 (128 * n.val + k.val)
  rw [BitVec.ofNat_add]

theorem trkBit_toNat (t : Fin 512) : (BitVec.ofNat 32 t.val).toNat = t.val := by
  rw [BitVec.toNat_ofNat]; have := t.isLt; omega

/-- The track's words are inside the staged coordinates. -/
theorem chk1 (t : Fin 512) : k0_chk1 (broadcast S16 (BitVec.ofNat 32 t.val)) := by
  have h : ∀ (a : Fin 1) (x : S16.Idx), ((![broadcast S16 (BitVec.ofNat 32 t.val)] : Fin 1 → IVec S16 32) a x).toNat < S512.size a := by
    intro a x
    obtain rfl : a = 0 := Subsingleton.elim _ _
    show (BitVec.ofNat 32 t.val).toNat < 512
    rw [trkBit_toNat]; exact t.isLt
  exact ⟨h, h⟩

omit [FloatOps F] [Named F] in
theorem and255 (a : BitVec 32) : (a &&& 255#32).toNat < 256 := by
  rw [BitVec.toNat_and]
  exact lt_of_le_of_lt Nat.and_le_right (by decide)

/-- Every lane's row and cell are inside the staged occupancy. -/
theorem chk2 (k : Fin k0_t3_loop.trips) (tx ty : FVec F S16 .f32) : k0_chk2 (broadcast S16 (rowBit k)) (cellOf tx ty) := by
  intro a x
  match a with
  | 0 =>
    show (rowBit k).toNat < 128
    rw [rowBit_toNat]; have := k.isLt; have := trips_eq; omega
  | 1 => exact and255 _

/-- The staged occupancy after lane groups `js` of track `k`, chunk `n`. -/
def groupsOcc (X Y : Vec F S512 .f32) (n : Fin 4) (k : Fin k0_t3_loop.trips) (js : List (Fin 32)) (f : Vec F S128x256 .f32) : Vec F S128x256 .f32 :=
  open Classical in fun i => if (i 0).val = k.val ∧ ∃ j ∈ js, hitIn X Y (trk n k) j (i 1).val then one else f i

theorem groupsOcc_nil (X Y : Vec F S512 .f32) (n : Fin 4) (k : Fin k0_t3_loop.trips) (f : Vec F S128x256 .f32) :
    groupsOcc X Y n k [] f = f := by
  funext i; simp [groupsOcc]

/-- One group first, then the others. -/
theorem groupsOcc_cons (X Y : Vec F S512 .f32) (n : Fin 4) (k : Fin k0_t3_loop.trips) (j : Fin 32) (js : List (Fin 32)) (f : Vec F S128x256 .f32) :
    groupsOcc X Y n k js (groupsOcc X Y n k [j] f) = groupsOcc X Y n k (j :: js) f := by
  funext i
  simp only [groupsOcc, List.mem_singleton, exists_eq_left, List.mem_cons, exists_eq_or_imp]
  by_cases h0 : (i 0).val = k.val <;> by_cases h1 : hitIn X Y (trk n k) j (i 1).val <;>
    by_cases h2 : ∃ j ∈ js, hitIn X Y (trk n k) j (i 1).val <;> simp [h0, h1, h2]

/-- The store of one group is that group's step. -/
theorem store_group (X Y : Vec F S512 .f32) (n : Fin 4) (k : Fin k0_t3_loop.trips) (j : Fin 32) (f : Vec F S128x256 .f32)
    (h : ∀ a x, ((![broadcast S16 (rowBit k), cells X Y (trk n k) j] : Fin 2 → IVec S16 32) a x).toNat < S128x256.size a) :
    storeIdx f (![broadcast S16 (rowBit k), cells X Y (trk n k) j] : Fin 2 → IVec S16 32) (k0_pay835 (F := F)) (kept X Y (trk n k) j) false h
      = groupsOcc X Y n k [j] f := by
  classical
  funext i
  have hs := storeIdx_const f _ (one (F := F)) (kept X Y (trk n k) j) h i
  have hiff : ((i 0).val = k.val ∧ ∃ j' ∈ [j], hitIn X Y (trk n k) j' (i 1).val)
      ↔ ∃ x, kept X Y (trk n k) j x = 1 ∧ ∀ a, (i a).val = ((![broadcast S16 (rowBit k), cells X Y (trk n k) j] : Fin 2 → IVec S16 32) a x).toNat := by
    simp only [List.mem_singleton, exists_eq_left]
    constructor
    · rintro ⟨h0, x, hm, hx⟩
      refine ⟨x, hm, fun a => ?_⟩
      match a with
      | 0 => exact h0.trans (rowBit_toNat k).symm
      | 1 => exact hx.symm
    · rintro ⟨x, hm, hx⟩
      have h0 : (i 0).val = (rowBit k).toNat := hx 0
      have h1 : (i 1).val = (cells X Y (trk n k) j x).toNat := hx 1
      exact ⟨h0.trans (rowBit_toNat k), x, hm, h1.symm⟩
  unfold groupsOcc
  by_cases hc : (i 0).val = k.val ∧ ∃ j' ∈ [j], hitIn X Y (trk n k) j' (i 1).val
  · rw [if_pos hc]; exact hs.1 (hiff.1 hc)
  · rw [if_neg hc]; exact hs.2 fun h' => hc (hiff.2 h')

/-- The staged occupancy after `m` tracks of chunk `n`, begun from a cleared one: one where a neighbour falls. -/
def chunkOcc (X Y : Vec F S512 .f32) (n : Fin 4) (m : Nat) : Vec F S128x256 .f32 :=
  open Classical in fun i => if (i 0).val < m ∧
    hit X Y ⟨128 * n.val + (i 0).val, by have := n.isLt; have : (i 0).val < 128 := (i 0).isLt; omega⟩ (i 1).val then one else nil

theorem chunkOcc_zero (X Y : Vec F S512 .f32) (n : Fin 4) : chunkOcc X Y n 0 = fun _ => nil := by
  funext i; simp [chunkOcc]

theorem mem_all32 : ∀ j : Fin 32, j ∈ all32 := by decide

theorem chunkOcc_succ (X Y : Vec F S512 .f32) (n : Fin 4) (k : Fin k0_t3_loop.trips) :
    groupsOcc X Y n k all32 (chunkOcc X Y n k.val) = chunkOcc X Y n (k.val + 1) := by
  classical
  funext i
  simp only [groupsOcc, chunkOcc, mem_all32, true_and]
  rcases lt_trichotomy (i 0).val k.val with h | h | h
  · rw [if_neg (by omega)]
    refine if_congr ?_ rfl rfl
    exact and_congr_left' ⟨fun _ => by omega, fun _ => h⟩
  · rw [if_neg (c := (i 0).val < k.val ∧ _) (by omega)]
    refine if_congr ?_ rfl rfl
    have ht : trk n k = ⟨128 * n.val + (i 0).val, by have := n.isLt; have : (i 0).val < 128 := (i 0).isLt; omega⟩ := Fin.ext (by simp [trk, h])
    rw [ht]
    exact ⟨fun h' => ⟨by omega, h'.2⟩, fun h' => ⟨h, h'.2⟩⟩
  · rw [if_neg (by omega), if_neg (by omega), if_neg (by omega)]

/-! ## Clearing -/

/-- The staged occupancy after strips `js` of row `k` are cleared. -/
def stripsOcc (k : Fin k0_t3_loop.trips) (js : List (Fin 16)) (f : Vec F S128x256 .f32) : Vec F S128x256 .f32 :=
  open Classical in fun i => if (i 0).val = k.val ∧ ∃ j ∈ js, j.val = (i 1).val / 16 then nil else f i

omit [Named F] in
theorem stripsOcc_nil (k : Fin k0_t3_loop.trips) (f : Vec F S128x256 .f32) : stripsOcc k [] f = f := by
  funext i; simp [stripsOcc]

omit [Named F] in
theorem stripsOcc_cons (k : Fin k0_t3_loop.trips) (j : Fin 16) (js : List (Fin 16)) (f : Vec F S128x256 .f32) :
    stripsOcc k js (stripsOcc k [j] f) = stripsOcc k (j :: js) f := by
  funext i
  simp only [stripsOcc, List.mem_singleton, exists_eq_left, List.mem_cons, exists_eq_or_imp]
  by_cases h0 : (i 0).val = k.val <;> by_cases h1 : j.val = (i 1).val / 16 <;>
    by_cases h2 : ∃ j ∈ js, j.val = (i 1).val / 16 <;> simp [h0, h1, h2]

/-- Rows below `m` cleared. -/
def cleared (m : Nat) (f : Vec F S128x256 .f32) : Vec F S128x256 .f32 := fun i => if (i 0).val < m then nil else f i

theorem mem_all16 : ∀ j : Fin 16, j ∈ all16 := by decide

omit [Named F] in
theorem cleared_zero (f : Vec F S128x256 .f32) : cleared 0 f = f := by funext i; simp [cleared]

omit [Named F] in
theorem cleared_all (f : Vec F S128x256 .f32) : cleared 128 f = fun _ => nil := by
  funext i; exact if_pos (i 0).isLt

omit [Named F] in
theorem cleared_succ (k : Fin k0_t3_loop.trips) (f : Vec F S128x256 .f32) :
    stripsOcc k all16 (cleared k.val f) = cleared (k.val + 1) f := by
  funext i
  have hj : ∃ j : Fin 16, j ∈ all16 ∧ j.val = (i 1).val / 16 :=
    ⟨⟨(i 1).val / 16, by have : (i 1).val < 256 := (i 1).isLt; omega⟩, mem_all16 _, rfl⟩
  simp only [stripsOcc, cleared, hj, and_true]
  rcases lt_trichotomy (i 0).val k.val with h | h | h
  · rw [if_neg (by omega), if_pos h, if_pos (by omega)]
  · rw [if_pos h, if_pos (by omega)]
  · rw [if_neg (by omega), if_neg (by omega), if_neg (by omega)]

theorem rowOff_zero : ∀ (k : Fin k0_t3_loop.trips) (j : Nat), rowOff k j 0 = k.val := by
  intro k j
  show (rowBit k).toNat = k.val
  exact rowBit_toNat k

/-! ## Scaling -/

/-- The cell scale. -/
abbrev inv : F .f32 := Named.named κ "inv_cell" 0x3FD55555#32

/-- The coordinates in cells. -/
def scaled (X : Vec F S512 .f32) : Vec F S512 .f32 := mulf X (broadcast S512 inv)

/-- The first `16 m` words scaled. -/
def scaledTo (m : Nat) (X : Vec F S512 .f32) : Vec F S512 .f32 := fun i => if (i 0).val < 16 * m then scaled X i else X i

theorem scaledTo_zero (X : Vec F S512 .f32) : scaledTo 0 X = X := by funext i; simp [scaledTo]
theorem scaledTo_all (X : Vec F S512 .f32) : scaledTo 32 X = scaled X := by funext i; exact if_pos (i 0).isLt

theorem off2_eq : ∀ k : Fin k0_t1_loop.trips, k0_off2 k 0 = 16 * k.val := by decide

end Cert.Proof.Values

end
-- ==== Proof.Setup.lean ====
/-
  The program as the launch theorem sees it, the resource algebra of the proof, the tile's buffers.
-/
module

public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen Cert.Proof.Trip Cert.Proof.Values
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the TensorCore region's rounds, the transfers' counters. -/
abbrev UH : Type := URounds (GSem nD τ sig) ℕ
abbrev UR : Type := URounds (GSem nD τ sig) Unit
abbrev UU : Type := UH × (UR × Counters)

/-- The ghost state of the run. -/
abbrev MM (F : FTy → Type) : Type := MT nD τ sig (HIx 1) (Elt F) ℕ UU ℕ

abbrev EH : Emb UH (MM F) := embL

abbrev cV (L : grid0.Coords) : Fin τ.nSC := (L 0).castLE hcore0
abbrev jV (L : grid0.Coords) : Fin τ.nSub := (L 1).castLE hsub0
/-- The tile's thread. -/
abbrev tid (d : Dev nD) (L : grid0.Coords) : Thread nD τ := V d (cV L) (jV L)

abbrev xM : Memref sig .scVector .vmem S512 .f32 := Memref.whole cc0_scratch0
abbrev yM : Memref sig .scVector .vmem S512 .f32 := Memref.whole cc0_scratch1
abbrev oM : Memref sig .scVector .vmem S128x256 .f32 := Memref.whole cc0_scratch2

end Cert.Proof.Run

end
-- ==== Proof.Track.lean ====
/-
  A track's work on a tile, a cleared row and sixteen scaled words: what each leaves in the staging buffers.
-/
module

public import proofs.«01_k».proof.Proof.Setup

@[expose] public section

noncomputable section

namespace Cert.Proof.Run

open Cert.KernelIdeal Cert.KernelIdeal.Gen Cert.Proof.Trip Cert.Proof.Values
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

variable (d : Dev nD) (L : grid0.Coords)

/-- The staged coordinates and the staged occupancy, whole. -/
abbrev xPt (f : Vec F S512 .f32) : sProp (MM F) := (tid d L).loc cc0_scratch0 ↦{fullShare} f
abbrev yPt (f : Vec F S512 .f32) : sProp (MM F) := (tid d L).loc cc0_scratch1 ↦{fullShare} f
abbrev oPt (f : Vec F S128x256 .f32) : sProp (MM F) := (tid d L).loc cc0_scratch2 ↦{fullShare} f

abbrev wpT {α : Type} (p : TP F L α) (Q : α → sProp (MM F)) : sProp (MM F) :=
  wp frame (wpE (defs₀ (F := F)) 𝒱₀ (tid d L) none) Set.univ p Q

theorem oPt_access (f : Vec F S128x256 .f32) :
    ((oM.access (.whole S128x256)).loc (tid d L) ↦[(oM.access (.whole S128x256)).set]{fullShare} f : sProp (MM F)) = oPt d L f := by
  rw [show (oM.access (.whole S128x256)).set = Finset.univ from Memref.set_access_whole (cc0_scratch2 : Ref sig .scVector)]

theorem o_write (f w : Vec F S128x256 .f32) : (oM.access (.whole S128x256)).write (Elt F) f w Finset.univ = w :=
  Memref.write_access_whole_univ (Elt F) (cc0_scratch2 : Ref sig .scVector) f w
theorem o_read (f : Vec F S128x256 .f32) : (oM.access (.whole S128x256)).read (Elt F) f = f :=
  Memref.read_access_whole (Elt F) (cc0_scratch2 : Ref sig .scVector) f

/-- The sixteen words loaded for lane group `j`. -/
theorem read_x (X : Vec F S512 .f32) (j : Fin 32) :
    xM.view.readAt (Elt F) (Rect.unit (s := S512) ![16 * j.val] S16.size (strip_inb j)).toLoadRect X = lanes X j := by
  funext x
  show X _ = X _
  refine congrArg X (funext fun a => Fin.ext ?_)
  obtain rfl : a = (0 : Fin 1) := Subsingleton.elim (α := Fin 1) _ _
  show 16 * j.val + 1 * (x 0).val = 16 * j.val + (x 0).val
  omega
theorem read_y (Y : Vec F S512 .f32) (j : Fin 32) :
    yM.view.readAt (Elt F) (Rect.unit (s := S512) ![16 * j.val] S16.size (strip_inb j)).toLoadRect Y = lanes Y j := read_x Y j

/-- Lane group `j` of track `k`, chunk `n`. -/
theorem wp_group (X Y : Vec F S512 .f32) (n : Fin 4) (k : Fin k0_t3_loop.trips) (j : Fin 32) (f : Vec F S128x256 .f32) :
    iprop(xPt d L X ∗ yPt d L Y ∗ oPt d L f)
      ⊢ wpT d L (group L xM yM oM k0_pay835 (broadcast S16 (rowBit k)) (centre X (trk n k)) (centre Y (trk n k)) (selfLane (trk n k))
          (Scalar.divsi (BitVec.ofNat 32 (trk n k).val) 16#32) j)
          fun _ => iprop(xPt d L X ∗ yPt d L Y ∗ oPt d L (groupsOcc X Y n k [j] f)) := by
  unfold group
  simp only [Prog.lift, Prog.bind_op, Prog.bind_ret, Prog.pure_eq_ret]
  iintro ⟨Hx, Hy, Ho⟩
  iapply (wp_load 𝒱₀ (tid d L) none Set.univ (m := xM) (S := Finset.univ) (Finset.subset_univ _)) $$ Hx; iintro Hx
  iapply (wp_load 𝒱₀ (tid d L) none Set.univ (m := yM) (S := Finset.univ) (Finset.subset_univ _)) $$ Hy; iintro Hy
  rw [read_x, read_y, wp_assume_of _ _ _ _ (chk2 k _ _), ← Prog.bind_pure (SparseCore.vectorStoreIdx _ _ _ _ _ _ _)]
  ihave Ho := (Entails.of_eq (oPt_access d L f).symm) $$ Ho
  iapply (SparseCore.wp_vectorStoreIdx 𝒱₀ (tid d L) none Set.univ (base := oM)) $$ Ho; iintro Ho
  ihave Ho := (Entails.of_eq (oPt_access d L _)) $$ Ho
  rw [Prog.pure_eq_ret, wp_ret]; imodintro
  isplitl [Hx]; · iexact Hx
  isplitl [Hy]; · iexact Hy
  rw [o_read, o_write]
  have hst := store_group X Y n k j f
  simp only [cells, kept] at hst
  rw [hst]
  iexact Ho

/-- The lane groups `js`. -/
theorem wp_groups (X Y : Vec F S512 .f32) (n : Fin 4) (k : Fin k0_t3_loop.trips) : ∀ (js : List (Fin 32)) (f : Vec F S128x256 .f32),
    iprop(xPt d L X ∗ yPt d L Y ∗ oPt d L f)
      ⊢ wpT d L (groups L xM yM oM k0_pay835 (broadcast S16 (rowBit k)) (centre X (trk n k)) (centre Y (trk n k)) (selfLane (trk n k))
          (Scalar.divsi (BitVec.ofNat 32 (trk n k).val) 16#32) js)
          fun _ => iprop(xPt d L X ∗ yPt d L Y ∗ oPt d L (groupsOcc X Y n k js f)) := by
  intro js
  induction js with
  | nil =>
    intro f
    unfold groups wpT
    rw [groupsOcc_nil, Prog.pure_eq_ret, wp_ret]
    iintro H; imodintro; iexact H
  | cons j js ih =>
    intro f
    unfold wpT
    rw [groups, wp_bind, ← groupsOcc_cons]
    exact (wp_group d L X Y n k j f).trans (wp_mono frame _ _ fun _ => ih _)

/-- One track's coordinate, fetched into every lane, less the centre. -/
theorem centre_x (X : Vec F S512 .f32) (t : Fin 512) (h) :
    subf (loadIdx ((xM.access (.whole S512)).read (Elt F) X) ![broadcast S16 (BitVec.ofNat 32 t.val)] h) (broadcast S16 (Scalar.ofBits .f32 0x41000000#32))
      = centre X t := by
  rw [show (xM.access (.whole S512)).read (Elt F) X = X from Memref.read_access_whole (Elt F) (cc0_scratch0 : Ref sig .scVector) X]
  refine congrArg (fun v => subf v _) (funext fun x => congrArg X (funext fun a => Fin.ext ?_))
  obtain rfl : a = (0 : Fin 1) := Subsingleton.elim (α := Fin 1) _ _
  exact trkBit_toNat t
theorem centre_y (Y : Vec F S512 .f32) (t : Fin 512) (h) :
    subf (loadIdx ((yM.access (.whole S512)).read (Elt F) Y) ![broadcast S16 (BitVec.ofNat 32 t.val)] h) (broadcast S16 (Scalar.ofBits .f32 0x41000000#32))
      = centre Y t := centre_x Y t h

/-- Track `k` of chunk `n`. -/
theorem wp_track (X Y : Vec F S512 .f32) (n : Fin 4) (k : Fin k0_t3_loop.trips) (f : Vec F S128x256 .f32) :
    iprop(xPt d L X ∗ yPt d L Y ∗ oPt d L f)
      ⊢ wpT d L (track L xM yM oM k0_pay835 (iota .scVector S16 32 [0] iota_S16_d0_w32_scVector) (BitVec.ofNat 32 (128 * n.val)) k)
          fun _ => iprop(xPt d L X ∗ yPt d L Y ∗ oPt d L (groupsOcc X Y n k all32 f)) := by
  unfold track
  rw [trkBit]
  unfold trackAt wpT
  simp only [Prog.lift, Prog.bind_op, Prog.bind_ret, Prog.pure_eq_ret]
  rw [wp_assume_of _ _ _ _ (chk1 (trk n k))]
  iintro ⟨Hx, Hy, Ho⟩
  iapply (SparseCore.wp_vectorLoadIdx 𝒱₀ (tid d L) none Set.univ (base := xM) (S := Finset.univ) (Finset.subset_univ _)) $$ Hx; iintro Hx
  iapply (SparseCore.wp_vectorLoadIdx 𝒱₀ (tid d L) none Set.univ (base := yM) (S := Finset.univ) (Finset.subset_univ _)) $$ Hy; iintro Hy
  rw [centre_x, centre_y, wp_bind]
  iapply (wp_wand_r frame _ _)
  isplitl
  · iapply (wp_groups d L X Y n k all32 f)
    isplitl [Hx]; · iexact Hx
    isplitl [Hy]; · iexact Hy
    iexact Ho
  · iintro %_ H
    rw [wp_ret]; imodintro; iexact H

/-! ## Clearing a row -/

theorem strip_write (k : Fin k0_t3_loop.trips) (j : Fin 16) (f : Vec F S128x256 .f32) :
    (oM.access (Rect.unit (s := S128x256) (rowOff k j.val) S1x16.size (row_inb k j))).write (Elt F) f
      (shapeCast S1x16 (k0_pay836 (F := F)) shapeCasts_S16_S1x16) Finset.univ = stripsOcc k [j] f := by
  funext i
  have hset : i ∈ (Rect.unit (s := S128x256) (rowOff k j.val) S1x16.size (row_inb k j)).set
      ↔ (i 0).val = k.val ∧ ∃ j' ∈ [j], j'.val = (i 1).val / 16 := by
    rw [Rect.mem_set_unit, Fin.forall_fin_two]
    simp only [List.mem_singleton, exists_eq_left]
    rw [rowOff_zero]
    show (k.val ≤ (i 0).val ∧ (i 0).val < k.val + 1) ∧ (16 * j.val ≤ (i 1).val ∧ (i 1).val < 16 * j.val + 16) ↔ _
    have : (i 1).val < 256 := (i 1).isLt
    omega
  unfold stripsOcc
  have hmem : (oM.access (Rect.unit (s := S128x256) (rowOff k j.val) S1x16.size (row_inb k j))).setOn Finset.univ
      = (Rect.unit (s := S128x256) (rowOff k j.val) S1x16.size (row_inb k j)).set :=
    View.set_slice_whole (cc0_scratch2 : Ref sig .scVector) _
  by_cases hi : i ∈ (Rect.unit (s := S128x256) (rowOff k j.val) S1x16.size (row_inb k j)).set
  · rw [if_pos (hset.1 hi)]
    obtain ⟨x, -, rfl⟩ := Finset.mem_map.mp (show i ∈ (oM.access (Rect.unit (s := S128x256) (rowOff k j.val) S1x16.size (row_inb k j))).setOn Finset.univ by
      rw [hmem]; exact hi)
    rw [View.write_emb_of_mem _ _ (Finset.mem_univ x)]
    rfl
  · rw [if_neg (fun h => hi (hset.2 h))]
    exact View.write_of_not_mem _ _ _ (by rw [hmem]; exact hi)

theorem wp_strip (k : Fin k0_t3_loop.trips) (j : Fin 16) (f : Vec F S128x256 .f32) :
    oPt d L f ⊢ wpT d L (strip L oM k0_pay836 k j) fun _ => oPt d L (stripsOcc k [j] f) := by
  unfold strip
  simp only [Prog.lift, Prog.bind_op, Prog.bind_ret, Prog.pure_eq_ret]
  iintro Ho
  iapply (wp_load 𝒱₀ (tid d L) none Set.univ (m := oM) (S := Finset.univ) (Finset.subset_univ _)) $$ Ho; iintro Ho
  iapply (wp_store 𝒱₀ (tid d L) none Set.univ (m := oM) (r := Rect.unit (s := S128x256) (rowOff k j.val) S1x16.size (row_inb k j))
    (Mk := Finset.univ) (S := Finset.univ) (Finset.subset_univ _)) $$ Ho; iintro Ho
  rw [wp_ret, strip_write]; imodintro; iexact Ho

theorem wp_strips (k : Fin k0_t3_loop.trips) : ∀ (js : List (Fin 16)) (f : Vec F S128x256 .f32),
    oPt d L f ⊢ wpT d L (strips L oM k0_pay836 k js) fun _ => oPt d L (stripsOcc k js f) := by
  intro js
  induction js with
  | nil =>
    intro f
    unfold strips wpT
    rw [stripsOcc_nil, Prog.pure_eq_ret, wp_ret]
    iintro H; imodintro; iexact H
  | cons j js ih =>
    intro f
    unfold wpT
    rw [strips, wp_bind, ← stripsOcc_cons]
    exact (wp_strip d L k j f).trans (wp_mono frame _ _ fun _ => ih _)

/-- A row cleared. -/
theorem wp_clear (k : Fin k0_t3_loop.trips) (f : Vec F S128x256 .f32) :
    oPt d L (cleared k.val f) ⊢ wpT d L (clear L oM k0_pay836 k) fun _ => oPt d L (cleared (k.val + 1) f) := by
  unfold clear wpT
  rw [wp_bind, ← cleared_succ]
  refine (wp_strips d L k all16 _).trans (wp_mono frame _ _ fun _ => ?_)
  rw [Prog.pure_eq_ret, wp_ret]
  iintro H; imodintro; iexact H

/-! ## Scaling sixteen words -/

/-- The store of sixteen scaled words over the words loaded. -/
theorem scale_write (k : Fin k0_t1_loop.trips) (X : Vec F S512 .f32) :
    (xM.access (Rect.unit (s := S512) (k0_off2 k) S16.size (k0_off2_inb k))).write (Elt F) (scaledTo k.val X)
      (k0_pay833 (xM.view.readAt (Elt F) (Rect.unit (s := S512) (k0_off2 k) S16.size (k0_off2_inb k)).toLoadRect (scaledTo k.val X))) Finset.univ
      = scaledTo (k.val + 1) X := by
  funext i
  have hmem : (xM.access (Rect.unit (s := S512) (k0_off2 k) S16.size (k0_off2_inb k))).setOn Finset.univ
      = (Rect.unit (s := S512) (k0_off2 k) S16.size (k0_off2_inb k)).set :=
    View.set_slice_whole (cc0_scratch0 : Ref sig .scVector) _
  have hset : i ∈ (Rect.unit (s := S512) (k0_off2 k) S16.size (k0_off2_inb k)).set ↔ 16 * k.val ≤ (i 0).val ∧ (i 0).val < 16 * k.val + 16 := by
    rw [Rect.mem_set_unit, Fin.forall_fin_one, off2_eq]; rfl
  by_cases hi : i ∈ (Rect.unit (s := S512) (k0_off2 k) S16.size (k0_off2_inb k)).set
  · obtain ⟨x, -, rfl⟩ := Finset.mem_map.mp (show i ∈ (xM.access (Rect.unit (s := S512) (k0_off2 k) S16.size (k0_off2_inb k))).setOn Finset.univ by
      rw [hmem]; exact hi)
    rw [View.write_emb_of_mem _ _ (Finset.mem_univ x)]
    have h := hset.1 hi
    have hs : scaledTo k.val X ((Rect.unit (s := S512) (k0_off2 k) S16.size (k0_off2_inb k)).emb x) = X ((Rect.unit (s := S512) (k0_off2 k) S16.size (k0_off2_inb k)).emb x) :=
      if_neg (by have := h.1; exact Nat.not_lt.2 this)
    show mulf (fun x => xM.view.readAt (Elt F) (Rect.unit (s := S512) (k0_off2 k) S16.size (k0_off2_inb k)).toLoadRect (scaledTo k.val X) x)
      (broadcast S16 inv) x = _
    refine Eq.trans ?_ (if_pos (show _ < 16 * (k.val + 1) by have := h.2; omega)).symm
    show FloatOps.mulf _ _ = FloatOps.mulf _ _
    exact congrArg (fun v => FloatOps.mulf v _) hs
  · refine (View.write_of_not_mem _ _ _ (by rw [hmem]; exact hi)).trans ?_
    unfold scaledTo
    refine if_congr ?_ rfl rfl
    rw [hset] at hi
    omega

theorem scale_write_y (k : Fin k0_t1_loop.trips) (Y : Vec F S512 .f32) :
    (yM.access (Rect.unit (s := S512) (k0_off2 k) S16.size (k0_off2_inb k))).write (Elt F) (scaledTo k.val Y)
      (k0_pay834 (yM.view.readAt (Elt F) (Rect.unit (s := S512) (k0_off2 k) S16.size (k0_off2_inb k)).toLoadRect (scaledTo k.val Y))) Finset.univ
      = scaledTo (k.val + 1) Y := scale_write k Y

/-- Sixteen words of each coordinate scaled. -/
theorem wp_scale (k : Fin k0_t1_loop.trips) (X Y : Vec F S512 .f32) :
    iprop(xPt d L (scaledTo k.val X) ∗ yPt d L (scaledTo k.val Y)) ⊢ wpT d L (scale L xM yM k)
      fun _ => iprop(xPt d L (scaledTo (k.val + 1) X) ∗ yPt d L (scaledTo (k.val + 1) Y)) := by
  unfold scale
  simp only [Prog.lift, Prog.bind_op, Prog.bind_ret, Prog.pure_eq_ret]
  iintro ⟨Hx, Hy⟩
  iapply (wp_load 𝒱₀ (tid d L) none Set.univ (m := xM) (S := Finset.univ) (Finset.subset_univ _)) $$ Hx; iintro Hx
  iapply (wp_load 𝒱₀ (tid d L) none Set.univ (m := xM) (S := Finset.univ) (Finset.subset_univ _)) $$ Hx; iintro Hx
  iapply (wp_store 𝒱₀ (tid d L) none Set.univ (m := xM) (r := Rect.unit (s := S512) (k0_off2 k) S16.size (k0_off2_inb k))
    (Mk := Finset.univ) (S := Finset.univ) (Finset.subset_univ _)) $$ Hx; iintro Hx
  iapply (wp_load 𝒱₀ (tid d L) none Set.univ (m := yM) (S := Finset.univ) (Finset.subset_univ _)) $$ Hy; iintro Hy
  iapply (wp_load 𝒱₀ (tid d L) none Set.univ (m := yM) (S := Finset.univ) (Finset.subset_univ _)) $$ Hy; iintro Hy
  iapply (wp_store 𝒱₀ (tid d L) none Set.univ (m := yM) (r := Rect.unit (s := S512) (k0_off2 k) S16.size (k0_off2_inb k))
    (Mk := Finset.univ) (S := Finset.univ) (Finset.subset_univ _)) $$ Hy; iintro Hy
  rw [wp_ret]; imodintro
  isplitl [Hx]
  · ihave Hx := (Entails.of_eq (congrArg (xPt d L) (scale_write k X))) $$ Hx
    iexact Hx
  · ihave Hy := (Entails.of_eq (congrArg (yPt d L) (scale_write_y k Y))) $$ Hy
    iexact Hy

end Cert.Proof.Run

end
-- ==== Proof.Pieces.lean ====
/-
  How the three shared arrays are cut among the tiles: tile (core c, subcore s) is number `2 s + c`; it reads words
  `512 w … 512 w + 511` of the two flat coordinate arrays and writes rows `512 w … 512 w + 511` of the occupancy, 128 at a time.
-/
module

public import proofs.«01_k».proof.Proof.Track

@[expose] public section

noncomputable section

namespace Cert.Proof.Run

open Cert.KernelIdeal Cert.KernelIdeal.Gen Cert.Proof.Trip Cert.Proof.Values
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The number of the tile at core `c`, subcore `s`. -/
def wid (c : Fin 2) (s : Fin 16) : Fin 32 := ⟨2 * s.val + c.val, by omega⟩
/-- The number of the tile at grid point `L`. -/
def widL (L : grid0.Coords) : Fin 32 := wid (L 0) (L 1)
theorem widL_val (L : grid0.Coords) : (widL L).val = 2 * (L 1).val + (L 0).val := rfl

/-- The words of the flat coordinates that belong to tile `w`; to core `c`. -/
def tileX (w : Fin 32) : Finset S16384.Idx := Finset.univ.filter fun i => (i 0).val / 512 = w.val
def coreX (c : Fin 2) : Finset S16384.Idx := Finset.univ.filter fun i => (i 0).val / 512 % 2 = c.val
/-- The occupancy words of chunk `n` of tile `w`; of tile `w`; of core `c`. -/
def blk (w : Fin 32) (n : Fin 4) : Finset S16384x256.Idx := Finset.univ.filter fun i => (i 0).val / 128 = 4 * w.val + n.val
def tileO (w : Fin 32) : Finset S16384x256.Idx := Finset.univ.filter fun i => (i 0).val / 512 = w.val
def coreO (c : Fin 2) : Finset S16384x256.Idx := Finset.univ.filter fun i => (i 0).val / 512 % 2 = c.val

theorem mem_tileX {w : Fin 32} {i : S16384.Idx} : i ∈ tileX w ↔ (i 0).val / 512 = w.val := by
  unfold tileX; rw [Finset.mem_filter]; exact and_iff_right (Finset.mem_univ _)
theorem mem_coreX {c : Fin 2} {i : S16384.Idx} : i ∈ coreX c ↔ (i 0).val / 512 % 2 = c.val := by
  unfold coreX; rw [Finset.mem_filter]; exact and_iff_right (Finset.mem_univ _)
theorem mem_blk {w : Fin 32} {n : Fin 4} {i : S16384x256.Idx} : i ∈ blk w n ↔ (i 0).val / 128 = 4 * w.val + n.val := by
  unfold blk; rw [Finset.mem_filter]; exact and_iff_right (Finset.mem_univ _)
theorem mem_tileO {w : Fin 32} {i : S16384x256.Idx} : i ∈ tileO w ↔ (i 0).val / 512 = w.val := by
  unfold tileO; rw [Finset.mem_filter]; exact and_iff_right (Finset.mem_univ _)
theorem mem_coreO {c : Fin 2} {i : S16384x256.Idx} : i ∈ coreO c ↔ (i 0).val / 512 % 2 = c.val := by
  unfold coreO; rw [Finset.mem_filter]; exact and_iff_right (Finset.mem_univ _)

theorem coreX_disjoint : ∀ c ∈ (Finset.univ : Finset (Fin 2)), ∀ c' ∈ (Finset.univ : Finset (Fin 2)), c ≠ c' → Disjoint (coreX c) (coreX c') := by
  intro c _ c' _ h
  rw [Finset.disjoint_left]
  intro i h1 h2
  exact h (Fin.ext ((Finset.mem_filter.mp h1).2.symm.trans (Finset.mem_filter.mp h2).2))
theorem coreX_cover : (Finset.univ : Finset (Fin 2)).biUnion coreX = Finset.univ := by
  refine Finset.eq_univ_iff_forall.mpr fun i => Finset.mem_biUnion.mpr ⟨⟨(i 0).val / 512 % 2, Nat.mod_lt _ (by decide)⟩, Finset.mem_univ _, ?_⟩
  exact Finset.mem_filter.mpr ⟨Finset.mem_univ _, rfl⟩
theorem coreO_disjoint : ∀ c ∈ (Finset.univ : Finset (Fin 2)), ∀ c' ∈ (Finset.univ : Finset (Fin 2)), c ≠ c' → Disjoint (coreO c) (coreO c') := by
  intro c _ c' _ h
  rw [Finset.disjoint_left]
  intro i h1 h2
  exact h (Fin.ext ((Finset.mem_filter.mp h1).2.symm.trans (Finset.mem_filter.mp h2).2))
theorem coreO_cover : (Finset.univ : Finset (Fin 2)).biUnion coreO = Finset.univ := by
  refine Finset.eq_univ_iff_forall.mpr fun i => Finset.mem_biUnion.mpr ⟨⟨(i 0).val / 512 % 2, Nat.mod_lt _ (by decide)⟩, Finset.mem_univ _, ?_⟩
  exact Finset.mem_filter.mpr ⟨Finset.mem_univ _, rfl⟩

theorem wid_inj {c : Fin 2} {s s' : Fin 16} (h : (wid c s).val = (wid c s').val) : s = s' := by
  have h : 2 * s.val + c.val = 2 * s'.val + c.val := h
  exact Fin.ext (by omega)

theorem tileX_disjoint (c : Fin 2) : ∀ s ∈ (Finset.univ : Finset (Fin 16)), ∀ s' ∈ (Finset.univ : Finset (Fin 16)), s ≠ s' →
    Disjoint (tileX (wid c s)) (tileX (wid c s')) := by
  intro s _ s' _ h
  rw [Finset.disjoint_left]
  intro i h1 h2
  exact h (wid_inj ((Finset.mem_filter.mp h1).2.symm.trans (Finset.mem_filter.mp h2).2))
theorem tileX_cover (c : Fin 2) : (Finset.univ : Finset (Fin 16)).biUnion (fun s => tileX (wid c s)) = coreX c := by
  ext i
  simp only [Finset.mem_biUnion, Finset.mem_univ, true_and, mem_tileX, mem_coreX, wid]
  have : (i 0).val < 16384 := (i 0).isLt
  refine ⟨fun ⟨s, h⟩ => by omega, fun h => ⟨⟨(i 0).val / 1024, by omega⟩, ?_⟩⟩
  show (i 0).val / 512 = 2 * ((i 0).val / 1024) + c.val
  omega
theorem tileO_disjoint (c : Fin 2) : ∀ s ∈ (Finset.univ : Finset (Fin 16)), ∀ s' ∈ (Finset.univ : Finset (Fin 16)), s ≠ s' →
    Disjoint (tileO (wid c s)) (tileO (wid c s')) := by
  intro s _ s' _ h
  rw [Finset.disjoint_left]
  intro i h1 h2
  exact h (wid_inj ((Finset.mem_filter.mp h1).2.symm.trans (Finset.mem_filter.mp h2).2))
theorem tileO_cover (c : Fin 2) : (Finset.univ : Finset (Fin 16)).biUnion (fun s => tileO (wid c s)) = coreO c := by
  ext i
  simp only [Finset.mem_biUnion, Finset.mem_univ, true_and, mem_tileO, mem_coreO, wid]
  have : (i 0).val < 16384 := (i 0).isLt
  refine ⟨fun ⟨s, h⟩ => by omega, fun h => ⟨⟨(i 0).val / 1024, by omega⟩, ?_⟩⟩
  show (i 0).val / 512 = 2 * ((i 0).val / 1024) + c.val
  omega
theorem blk_disjoint (w : Fin 32) : ∀ n ∈ (Finset.univ : Finset (Fin 4)), ∀ n' ∈ (Finset.univ : Finset (Fin 4)), n ≠ n' → Disjoint (blk w n) (blk w n') := by
  intro n _ n' _ h
  rw [Finset.disjoint_left]
  intro i h1 h2
  have := (Finset.mem_filter.mp h1).2
  have := (Finset.mem_filter.mp h2).2
  exact h (Fin.ext (by omega))
theorem blk_cover (w : Fin 32) : (Finset.univ : Finset (Fin 4)).biUnion (blk w) = tileO w := by
  ext i
  simp only [Finset.mem_biUnion, Finset.mem_univ, true_and, mem_blk, mem_tileO]
  have : (i 0).val < 16384 := (i 0).isLt
  refine ⟨fun ⟨n, h⟩ => by omega, fun h => ⟨⟨(i 0).val / 128 % 4, by omega⟩, ?_⟩⟩
  show (i 0).val / 128 = 4 * w.val + (i 0).val / 128 % 4
  omega

/-! ## The kernel's views are these pieces -/

abbrev xsM : Memref sig .scVector .hbm S16384 .f32 := Memref.whole main_v6_scv
abbrev ysM : Memref sig .scVector .hbm S16384 .f32 := Memref.whole main_v9_scv
abbrev occM : Memref sig .scVector .hbm S16384x256 .f32 := Memref.whole main_v10_scv

theorem off19_eq : ∀ (i : grid0.Coords) (n : Fin 4), k0_off19 i (BitVec.ofNat 32 (128 * n.val)) = ![1024 * (i 1).val + 512 * (i 0).val + 128 * n.val, 0] := by
  decide +kernel

variable (d : Dev nD) (L : grid0.Coords)

/-- The tile's words of the x coordinates, and of the y coordinates, as the kernel views them. -/
abbrev srcX : Memref sig .scVector .hbm S512 .f32 := xsM.slice (Rect.unit (s := S16384) (k0_off1 L) S512.size (k0_off1_inb L)) (fun _ => rfl)
abbrev srcY : Memref sig .scVector .hbm S512 .f32 := ysM.slice (Rect.unit (s := S16384) (k0_off1 L) S512.size (k0_off1_inb L)) (fun _ => rfl)

theorem set_rectX : (Rect.unit (s := S16384) (k0_off1 L) S512.size (k0_off1_inb L)).set = tileX (widL L) := by
  ext i
  rw [Rect.mem_set_unit, Fin.forall_fin_one, k0_off1_eq]
  show (1024 * (L 1).val + 512 * (L 0).val ≤ (i 0).val ∧ (i 0).val < 1024 * (L 1).val + 512 * (L 0).val + 512) ↔ _
  rw [mem_tileX, widL_val]
  omega
theorem set_srcX : (srcX L).view.set = tileX (widL L) :=
  (View.set_slice_whole (main_v6_scv : Ref sig .scVector) _).trans (set_rectX L)
theorem set_srcY : (srcY L).view.set = tileX (widL L) :=
  (View.set_slice_whole (main_v9_scv : Ref sig .scVector) _).trans (set_rectX L)

theorem set_rows (n : Fin 4) : (rowsOf L occM n).view.set = blk (widL L) n := by
  refine (View.set_slice_whole (main_v10_scv : Ref sig .scVector) _).trans ?_
  show (Rect.unit (s := S16384x256) (k0_off19 L (BitVec.ofNat 32 (128 * n.val))) S128x256.size (k0_off19_inb L n)).set = _
  ext i
  refine Rect.mem_set_unit.trans (Fin.forall_fin_two.trans ?_)
  rw [off19_eq]
  show (1024 * (L 1).val + 512 * (L 0).val + 128 * n.val ≤ (i 0).val ∧ (i 0).val < 1024 * (L 1).val + 512 * (L 0).val + 128 * n.val + 128)
    ∧ (0 ≤ (i 1).val ∧ (i 1).val < 0 + 256) ↔ _
  rw [mem_blk, widL_val]
  have : (i 1).val < 256 := (i 1).isLt
  omega

/-! ## The arrays' contents -/

/-- Word `n` of a 16384-word array. -/
def ixW (n : Fin 16384) : S16384.Idx := Shape.ofLane (d := ![16384]) n

/-- Tile `w`'s words of a flat coordinate array. -/
def rowX (g : Vec F S16384 .f32) (w : Fin 32) : Vec F S512 .f32 :=
  fun i => g (ixW ⟨512 * w.val + (i 0).val, by have := w.isLt; have : (i 0).val < 512 := (i 0).isLt; omega⟩)

/-- The occupancy of every track: one where a neighbour falls, zero elsewhere. -/
def occV (gx gy : Vec F S16384 .f32) : Vec F S16384x256 .f32 :=
  open Classical in fun i => if hit (scaled (rowX gx ⟨(i 0).val / 512, by have : (i 0).val < 16384 := (i 0).isLt; omega⟩))
      (scaled (rowX gy ⟨(i 0).val / 512, by have : (i 0).val < 16384 := (i 0).isLt; omega⟩))
      ⟨(i 0).val % 512, Nat.mod_lt _ (by decide)⟩ (i 1).val then one else nil

theorem read_srcX (g : Vec F S16384 .f32) : (srcX L).view.read (Elt F) g = rowX g (widL L) := by
  funext x
  show g _ = g _
  refine congrArg g (funext fun a => Fin.ext ?_)
  obtain rfl : a = (0 : Fin 1) := Subsingleton.elim (α := Fin 1) _ _
  show k0_off1 L 0 + 1 * (x 0).val = 512 * (2 * (L 1).val + (L 0).val) + (x 0).val
  rw [k0_off1_eq]
  show 1024 * (L 1).val + 512 * (L 0).val + 1 * (x 0).val = _
  omega
theorem read_srcY (g : Vec F S16384 .f32) : (srcY L).view.read (Elt F) g = rowX g (widL L) := read_srcX L g

/-- What a chunk's copy leaves in its rows of the result is the occupancy there. -/
theorem write_rows (gx gy : Vec F S16384 .f32) (n : Fin 4) (fd : Vec F S16384x256 .f32) :
    ∀ i ∈ blk (widL L) n, (rowsOf L occM n).view.writes (Elt F) fd
      [⟨Rect.whole S128x256, chunkOcc (scaled (rowX gx (widL L))) (scaled (rowX gy (widL L))) n 128⟩] i = occV gx gy i := by
  intro i hi
  rw [← set_rows] at hi
  obtain ⟨x, -, rfl⟩ := Finset.mem_map.mp hi
  have he : ((rowsOf L occM n).view.slice (Rect.whole S128x256)).emb x = (rowsOf L occM n).view.emb x := by
    have h := Rect.emb_whole_apply S128x256 x
    exact congrArg (fun y : S128x256.Idx => (rowsOf L occM n).view.emb y) h
  rw [View.writes_singleton, ← he, View.write_emb_of_mem _ _ (Finset.mem_univ x), he]
  have h0 : (((rowsOf L occM n).view.emb x) 0).val = 512 * (widL L).val + (128 * n.val + (x 0).val) := by
    show k0_off19 L (BitVec.ofNat 32 (128 * n.val)) 0 + 1 * (x 0).val = 512 * (2 * (L 1).val + (L 0).val) + (128 * n.val + (x 0).val)
    rw [off19_eq]
    show 1024 * (L 1).val + 512 * (L 0).val + 128 * n.val + 1 * (x 0).val = _
    omega
  have h1 : (((rowsOf L occM n).view.emb x) 1).val = (x 1).val := by
    show k0_off19 L (BitVec.ofNat 32 (128 * n.val)) 1 + 1 * (x 1).val = (x 1).val
    rw [off19_eq]
    show 0 + 1 * (x 1).val = _
    omega
  have hx : (x 0).val < 128 := (x 0).isLt
  have hn := n.isLt
  have hw : (⟨(((rowsOf L occM n).view.emb x) 0).val / 512, by rw [h0]; have := (widL L).isLt; omega⟩ : Fin 32) = widL L := Fin.ext (by
    show (((rowsOf L occM n).view.emb x) 0).val / 512 = (widL L).val
    rw [h0]; omega)
  have ht : (⟨(((rowsOf L occM n).view.emb x) 0).val % 512, Nat.mod_lt _ (by decide)⟩ : Fin 512) = ⟨128 * n.val + (x 0).val, by omega⟩ := Fin.ext (by
    show (((rowsOf L occM n).view.emb x) 0).val % 512 = 128 * n.val + (x 0).val
    rw [h0]; omega)
  unfold occV chunkOcc
  rw [hw, ht, h1]
  classical
  exact if_congr (and_iff_right hx) rfl rfl

end Cert.Proof.Run

end
-- ==== Proof.Tile.lean ====
/-
  One tile's whole kernel: from its words of the coordinates and its rows of the occupancy, at anything, to the same rows
  holding the occupancy of its 512 tracks.
-/
module

public import proofs.«01_k».proof.Proof.Pieces

@[expose] public section

noncomputable section

namespace Cert.Proof.Run

open Cert.KernelIdeal Cert.KernelIdeal.Gen Cert.Proof.Trip Cert.Proof.Values
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (L : grid0.Coords)

/-- The shared arrays, as locations of device `d`. -/
abbrev xsLoc : Loc nD τ sig := (SparseCore.T d).loc main_v6
abbrev ysLoc : Loc nD τ sig := (SparseCore.T d).loc main_v9
abbrev occLoc : Loc nD τ sig := (SparseCore.T d).loc main_v10

theorem pts_srcX (g : Vec F S16384 .f32) :
    ((srcX L).view.loc (tid d L) ↦[(srcX L).view.set]{fullShare} g : sProp (MM F)) = xsLoc d ↦[tileX (widL L)]{fullShare} g := by
  rw [set_srcX]
theorem pts_srcY (g : Vec F S16384 .f32) :
    ((srcY L).view.loc (tid d L) ↦[(srcY L).view.set]{fullShare} g : sProp (MM F)) = ysLoc d ↦[tileX (widL L)]{fullShare} g := by
  rw [set_srcY]
theorem pts_rows (n : Fin 4) (f : Vec F S16384x256 .f32) :
    ((rowsOf L occM n).view.loc (tid d L) ↦[(rowsOf L occM n).view.set]{fullShare} f : sProp (MM F)) = occLoc d ↦[blk (widL L) n]{fullShare} f := by
  rw [set_rows]

/-- The waits' evidence of a tile that owes nothing below its transfers. -/
abbrev lev : sProp (MM F) := levAts (K (F := F)).L (K (F := F)).lev

/-- The x coordinates fetched. -/
theorem wp_fetch_x (O : CellTallies nD τ sig (HIx 1)) (W : Waits sig (HIx 1)) (hO : ∀ g, O g none = 0) (g : Vec F S16384 .f32) (f : Vec F S512 .f32) :
    iprop(lev (F := F) ∗ (xsLoc d ↦[tileX (widL L)]{fullShare} g) ∗ xPt d L f ∗ semVal (tid d L, .dma cc0_scoped0.sem) 0 ∗ owes (tid d L) O W)
      ⊢ wpT d L (fetch L xsM xM (Memref.isWhole_whole _) cc0_scoped0)
          fun _ => iprop((xsLoc d ↦[tileX (widL L)]{fullShare} g) ∗ xPt d L (rowX g (widL L)) ∗ semVal (tid d L, .dma cc0_scoped0.sem) 0
            ∗ ∃ W', owes (tid d L) O W') := by
  iintro ⟨#Hlv, Hs, Hx, Hsem, HO⟩
  ihave Hmw := (show levAts (K (F := F)).L (K (F := F)).lev ⊢ Transfers.MayWaits (tid d L) (default : HIx 1) O from
    (K (F := F)).mayWaits_none (thr := tid d L) hO) $$ Hlv
  ihave Hs' := (Entails.of_eq (pts_srcX (F := F) d L _).symm) $$ Hs
  ihave Hx' := (show xPt d L f ⊢ (xM.view.loc (tid d L) ↦{fullShare} f : sProp (MM F)) from .rfl) $$ Hx
  unfold wpT
  sl_unfold [fetch]
  sl_exec (disch := exact View.amount_pos _ _ (show 0 < S512.numel by decide))
  sl_step
  isplitl [Hs']; · iapply (Entails.of_eq (pts_srcX (F := F) d L _)); iexact Hs'
  isplitl [Hx']
  · iapply (Entails.of_eq (congrArg (xPt d L) (show View.write (Elt F) xM.view f ((srcX L).view.read (Elt F) g) Finset.univ = rowX g (widL L) from
      (View.write_whole_univ (cc0_scratch0 : Ref sig .scVector) f _).trans (read_srcX L g))))
    iexact Hx'
  isplitl [Hsem]; · iexact Hsem
  iexists _; iexact HO

/-- The y coordinates fetched. -/
theorem wp_fetch_y (O : CellTallies nD τ sig (HIx 1)) (W : Waits sig (HIx 1)) (hO : ∀ g, O g none = 0) (g : Vec F S16384 .f32) (f : Vec F S512 .f32) :
    iprop(lev (F := F) ∗ (ysLoc d ↦[tileX (widL L)]{fullShare} g) ∗ yPt d L f ∗ semVal (tid d L, .dma cc0_scoped1.sem) 0 ∗ owes (tid d L) O W)
      ⊢ wpT d L (fetch L ysM yM (Memref.isWhole_whole _) cc0_scoped1)
          fun _ => iprop((ysLoc d ↦[tileX (widL L)]{fullShare} g) ∗ yPt d L (rowX g (widL L)) ∗ semVal (tid d L, .dma cc0_scoped1.sem) 0
            ∗ ∃ W', owes (tid d L) O W') := by
  iintro ⟨#Hlv, Hs, Hx, Hsem, HO⟩
  ihave Hmw := (show levAts (K (F := F)).L (K (F := F)).lev ⊢ Transfers.MayWaits (tid d L) (default : HIx 1) O from
    (K (F := F)).mayWaits_none (thr := tid d L) hO) $$ Hlv
  ihave Hs' := (Entails.of_eq (pts_srcY (F := F) d L _).symm) $$ Hs
  ihave Hx' := (show yPt d L f ⊢ (yM.view.loc (tid d L) ↦{fullShare} f : sProp (MM F)) from .rfl) $$ Hx
  unfold wpT
  sl_unfold [fetch]
  sl_exec (disch := exact View.amount_pos _ _ (show 0 < S512.numel by decide))
  sl_step
  isplitl [Hs']; · iapply (Entails.of_eq (pts_srcY (F := F) d L _)); iexact Hs'
  isplitl [Hx']
  · iapply (Entails.of_eq (congrArg (yPt d L) (show View.write (Elt F) yM.view f ((srcY L).view.read (Elt F) g) Finset.univ = rowX g (widL L) from
      (View.write_whole_univ (cc0_scratch1 : Ref sig .scVector) f _).trans (read_srcY L g))))
    iexact Hx'
  isplitl [Hsem]; · iexact Hsem
  iexists _; iexact HO

/-- Chunk `n`'s staged rows copied out. -/
theorem wp_writeback (O : CellTallies nD τ sig (HIx 1)) (W : Waits sig (HIx 1)) (hO : ∀ g, O g none = 0) (r : DmaSems sig S_) (n : Fin 4)
    (f : Vec F S128x256 .f32) (fd : Vec F S16384x256 .f32) :
    iprop(lev (F := F) ∗ (occLoc d ↦[blk (widL L) n]{fullShare} fd) ∗ oPt d L f ∗ semVal (tid d L, .dma r.sem) 0 ∗ owes (tid d L) O W)
      ⊢ wpT d L (writeback L oM (Memref.isWhole_whole _) occM r n)
          fun _ => iprop((occLoc d ↦[blk (widL L) n]{fullShare} ((rowsOf L occM n).view.writes (Elt F) fd [⟨Rect.whole S128x256, f⟩])) ∗ oPt d L f
            ∗ semVal (tid d L, .dma r.sem) 0 ∗ ∃ W', owes (tid d L) O W') := by
  iintro ⟨#Hlv, Hs, Hx, Hsem, HO⟩
  ihave Hmw := (show levAts (K (F := F)).L (K (F := F)).lev ⊢ Transfers.MayWaits (tid d L) (default : HIx 1) O from
    (K (F := F)).mayWaits_none (thr := tid d L) hO) $$ Hlv
  ihave Hs' := (Entails.of_eq (pts_rows (F := F) d L n _).symm) $$ Hs
  ihave Hx' := (show oPt d L f ⊢ (oM.view.loc (tid d L) ↦{fullShare} f : sProp (MM F)) from .rfl) $$ Hx
  unfold wpT
  sl_unfold [writeback]
  sl_exec (disch := exact View.amount_pos _ _ (show 0 < S128x256.numel by decide))
  sl_step
  isplitl [Hs']; · iapply (Entails.of_eq (pts_rows (F := F) d L n _)); iexact Hs'
  isplitl [Hx']; · iexact Hx'
  isplitl [Hsem]; · iexact Hsem
  iexists _; iexact HO

/-- Chunk `n`: its rows of the result hold the occupancy. -/
theorem wp_chunk (O : CellTallies nD τ sig (HIx 1)) (W : Waits sig (HIx 1)) (hO : ∀ g, O g none = 0) (r : DmaSems sig S_) (n : Fin 4)
    (gx gy : Vec F S16384 .f32) (f : Vec F S128x256 .f32) (fd : Vec F S16384x256 .f32) :
    iprop(lev (F := F) ∗ xPt d L (scaled (rowX gx (widL L))) ∗ yPt d L (scaled (rowX gy (widL L))) ∗ oPt d L f
        ∗ (occLoc d ↦[blk (widL L) n]{fullShare} fd) ∗ semVal (tid d L, .dma r.sem) 0 ∗ owes (tid d L) O W)
      ⊢ wpT d L (chunk L occM xM yM oM (Memref.isWhole_whole _) r n)
          fun _ => iprop(xPt d L (scaled (rowX gx (widL L))) ∗ yPt d L (scaled (rowX gy (widL L))) ∗ (∃ f, oPt d L f)
            ∗ (occLoc d ↦[blk (widL L) n]{fullShare} occV gx gy) ∗ semVal (tid d L, .dma r.sem) 0 ∗ ∃ W', owes (tid d L) O W') := by
  iintro ⟨#Hlv, Hx, Hy, Ho, Hocc, Hsem, HO⟩
  unfold chunk wpT
  have htr : Scf.trips k0_t2_loop.lb k0_t2_loop.ub k0_t2_loop.st = 128 := by decide
  have htr' : Scf.trips k0_t3_loop.lb k0_t3_loop.ub k0_t3_loop.st = 128 := by decide
  ihave Ho := (Entails.of_eq (congrArg (oPt d L) (cleared_zero f).symm)) $$ Ho
  iapply (Scf.wp_for_bind frame (wpE (defs₀ (F := F)) 𝒱₀ (tid d L) none) Set.univ k0_t2_loop.lb k0_t2_loop.ub k0_t2_loop.st k0_t2_ok _ _
    (fun m _ => oPt d L (cleared m f)) (fun k _ => wp_clear d L k f)) $$ Ho
  iintro %_ Ho
  ihave Ho := (Entails.of_eq (congrArg (oPt d L) (show cleared (Scf.trips k0_t2_loop.lb k0_t2_loop.ub k0_t2_loop.st) f
    = chunkOcc (scaled (rowX gx (widL L))) (scaled (rowX gy (widL L))) n 0 by rw [htr, cleared_all, chunkOcc_zero]))) $$ Ho
  ihave H := (show iprop(xPt d L (scaled (rowX gx (widL L))) ∗ yPt d L (scaled (rowX gy (widL L)))
      ∗ oPt d L (chunkOcc (scaled (rowX gx (widL L))) (scaled (rowX gy (widL L))) n 0)) ⊢ _ from .rfl) $$ [Hx Hy Ho]
  · isplitl [Hx]; · iexact Hx
    isplitl [Hy]; · iexact Hy
    iexact Ho
  iapply (Scf.wp_for_bind frame (wpE (defs₀ (F := F)) 𝒱₀ (tid d L) none) Set.univ k0_t3_loop.lb k0_t3_loop.ub k0_t3_loop.st k0_t3_ok _ _
    (fun m _ => iprop(xPt d L (scaled (rowX gx (widL L))) ∗ yPt d L (scaled (rowX gy (widL L)))
      ∗ oPt d L (chunkOcc (scaled (rowX gx (widL L))) (scaled (rowX gy (widL L))) n m)))
    (fun k _ => by rw [← chunkOcc_succ]; exact wp_track d L _ _ n k _)) $$ H
  iintro %_ ⟨Hx, Hy, Ho⟩
  rw [htr']
  iapply (wp_wand_r frame _ _)
  isplitl [Ho Hocc Hsem HO]
  · iapply (wp_writeback d L O W hO r n _ fd)
    isplitr; · iexact Hlv
    isplitl [Hocc]; · iexact Hocc
    isplitl [Ho]; · iexact Ho
    isplitl [Hsem]; · iexact Hsem
    iexact HO
  iintro %_ ⟨Hocc, Ho, Hsem, HO⟩
  isplitl [Hx]; · iexact Hx
  isplitl [Hy]; · iexact Hy
  isplitl [Ho]; · iexists _; iexact Ho
  isplitl [Hocc]
  · iapply (Entails.of_eq (pointsTo_congr (ℓ := occLoc d) (q := fullShare) (write_rows L gx gy n fd)))
    iexact Hocc
  isplitl [Hsem]; · iexact Hsem
  iexact HO

end Cert.Proof.Run

end
-- ==== Proof.Body.lean ====
/-
  The printed kernel on one tile: the steps of Tile.lean in order, from the tile's own scoped state.
-/
module

public import proofs.«01_k».proof.Proof.Tile
public import proofs.«01_k».proof.Proof.Gen.KernelIdeal.Launch

@[expose] public section

noncomputable section

namespace Cert.Proof.Run

open Cert.KernelIdeal Cert.KernelIdeal.Gen Cert.Proof.Trip Cert.Proof.Values
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (L : grid0.Coords)

/-- The two flat coordinate arrays' words of the tile, and its rows of the occupancy. -/
abbrev tilePts (gx gy : Vec F S16384 .f32) (f : Vec F S16384x256 .f32) (w : Fin 32) : sProp (MM F) :=
  iprop((xsLoc d ↦[tileX w]{fullShare} gx) ∗ (ysLoc d ↦[tileX w]{fullShare} gy) ∗ (occLoc d ↦[tileO w]{fullShare} f))

theorem occ_chunks (w : Fin 32) (f : Vec F S16384x256 .f32) :
    (occLoc d ↦[tileO w]{fullShare} f : sProp (MM F)) = iprop((occLoc d ↦[blk w 0]{fullShare} f) ∗ (occLoc d ↦[blk w 1]{fullShare} f)
      ∗ (occLoc d ↦[blk w 2]{fullShare} f) ∗ (occLoc d ↦[blk w 3]{fullShare} f)) := by
  rw [← bigSep_W1 (fun n => (occLoc d ↦[blk w n]{fullShare} f : sProp (MM F))), ← pointsTo_biUnion Finset.univ (ℓ := occLoc d) (blk w) (blk_disjoint w), blk_cover]

/-- The tile's program: the coordinates fetched and scaled, then the four chunks. -/
theorem wp_tile (O : CellTallies nD τ sig (HIx 1)) (W : Waits sig (HIx 1)) (hO : ∀ g, O g none = 0)
    (gx gy : Vec F S16384 .f32) (fx fy : Vec F S512 .f32) (f : Vec F S128x256 .f32) (fd : Vec F S16384x256 .f32) :
    iprop(lev (F := F) ∗ tilePts d gx gy fd (widL L) ∗ (xPt d L fx ∗ yPt d L fy ∗ oPt d L f)
        ∗ (semVal (tid d L, .dma cc0_scoped0.sem) 0 ∗ semVal (tid d L, .dma cc0_scoped1.sem) 0 ∗ semVal (tid d L, .dma cc0_scoped2.sem) 0
          ∗ semVal (tid d L, .dma cc0_scoped3.sem) 0 ∗ semVal (tid d L, .dma cc0_scoped4.sem) 0 ∗ semVal (tid d L, .dma cc0_scoped5.sem) 0)
        ∗ owes (tid d L) O W)
      ⊢ wpT d L (tile L xsM ysM occM xM (Memref.isWhole_whole _) yM (Memref.isWhole_whole _) oM (Memref.isWhole_whole _)
          cc0_scoped0 cc0_scoped1 cc0_scoped2 cc0_scoped3 cc0_scoped4 cc0_scoped5)
          fun _ => iprop(tilePts d gx gy (occV gx gy) (widL L) ∗ ((∃ f, xPt d L f) ∗ (∃ f, yPt d L f) ∗ (∃ f, oPt d L f))
            ∗ (semVal (tid d L, .dma cc0_scoped0.sem) 0 ∗ semVal (tid d L, .dma cc0_scoped1.sem) 0 ∗ semVal (tid d L, .dma cc0_scoped2.sem) 0
              ∗ semVal (tid d L, .dma cc0_scoped3.sem) 0 ∗ semVal (tid d L, .dma cc0_scoped4.sem) 0 ∗ semVal (tid d L, .dma cc0_scoped5.sem) 0)
            ∗ ∃ W', owes (tid d L) O W') := by
  unfold tilePts
  rw [occ_chunks, occ_chunks]
  iintro ⟨#Hlv, ⟨Hgx, Hgy, Hb0, Hb1, Hb2, Hb3⟩, ⟨Hx, Hy, Ho⟩, ⟨H0, H1, H2, H3, H4, H5⟩, HO⟩
  have htr : Scf.trips k0_t1_loop.lb k0_t1_loop.ub k0_t1_loop.st = 32 := by decide
  unfold tile wpT
  simp only [wp_bind]
  iapply (wp_wand_r frame _ _)
  isplitl [Hgx Hx H0 HO]
  · iapply (wp_fetch_x d L O W hO gx fx)
    isplitr; · iexact Hlv
    isplitl [Hgx]; · iexact Hgx
    isplitl [Hx]; · iexact Hx
    isplitl [H0]; · iexact H0
    iexact HO
  iintro %_ ⟨Hgx, Hx, H0, %W0, HO⟩
  iapply (wp_wand_r frame _ _)
  isplitl [Hgy Hy H1 HO]
  · iapply (wp_fetch_y d L O W0 hO gy fy)
    isplitr; · iexact Hlv
    isplitl [Hgy]; · iexact Hgy
    isplitl [Hy]; · iexact Hy
    isplitl [H1]; · iexact H1
    iexact HO
  iintro %_ ⟨Hgy, Hy, H1, %W1, HO⟩
  iapply (Scf.wp_for frame (wpE (defs₀ (F := F)) 𝒱₀ (tid d L) none) Set.univ k0_t1_loop.lb k0_t1_loop.ub k0_t1_loop.st k0_t1_ok _ _
    (fun m _ => iprop(xPt d L (scaledTo m (rowX gx (widL L))) ∗ yPt d L (scaledTo m (rowX gy (widL L)))))
    (fun k _ => wp_scale d L k _ _))
  rw [scaledTo_zero, scaledTo_zero]
  isplitl [Hx Hy]
  · isplitl [Hx]; · iexact Hx
    iexact Hy
  iintro %_ ⟨Hx, Hy⟩
  rw [htr, scaledTo_all, scaledTo_all]
  iapply (wp_wand_r frame _ _)
  isplitl [Hx Hy Ho Hb0 H2 HO]
  · iapply (wp_chunk d L O W1 hO cc0_scoped2 0 gx gy f fd)
    isplitr; · iexact Hlv
    isplitl [Hx]; · iexact Hx
    isplitl [Hy]; · iexact Hy
    isplitl [Ho]; · iexact Ho
    isplitl [Hb0]; · iexact Hb0
    isplitl [H2]; · iexact H2
    iexact HO
  iintro %_ ⟨Hx, Hy, ⟨%f1, Ho⟩, Hb0, H2, %W2, HO⟩
  iapply (wp_wand_r frame _ _)
  isplitl [Hx Hy Ho Hb1 H3 HO]
  · iapply (wp_chunk d L O W2 hO cc0_scoped3 1 gx gy f1 fd)
    isplitr; · iexact Hlv
    isplitl [Hx]; · iexact Hx
    isplitl [Hy]; · iexact Hy
    isplitl [Ho]; · iexact Ho
    isplitl [Hb1]; · iexact Hb1
    isplitl [H3]; · iexact H3
    iexact HO
  iintro %_ ⟨Hx, Hy, ⟨%f2, Ho⟩, Hb1, H3, %W3, HO⟩
  iapply (wp_wand_r frame _ _)
  isplitl [Hx Hy Ho Hb2 H4 HO]
  · iapply (wp_chunk d L O W3 hO cc0_scoped4 2 gx gy f2 fd)
    isplitr; · iexact Hlv
    isplitl [Hx]; · iexact Hx
    isplitl [Hy]; · iexact Hy
    isplitl [Ho]; · iexact Ho
    isplitl [Hb2]; · iexact Hb2
    isplitl [H4]; · iexact H4
    iexact HO
  iintro %_ ⟨Hx, Hy, ⟨%f3, Ho⟩, Hb2, H4, %W4, HO⟩
  iapply (wp_wand_r frame _ _)
  isplitl [Hx Hy Ho Hb3 H5 HO]
  · iapply (wp_chunk d L O W4 hO cc0_scoped5 3 gx gy f3 fd)
    isplitr; · iexact Hlv
    isplitl [Hx]; · iexact Hx
    isplitl [Hy]; · iexact Hy
    isplitl [Ho]; · iexact Ho
    isplitl [Hb3]; · iexact Hb3
    isplitl [H5]; · iexact H5
    iexact HO
  iintro %_ ⟨Hx, Hy, ⟨%f4, Ho⟩, Hb3, H5, %W5, HO⟩
  isplitl [Hgx Hgy Hb0 Hb1 Hb2 Hb3]
  · isplitl [Hgx]; · iexact Hgx
    isplitl [Hgy]; · iexact Hgy
    isplitl [Hb0]; · iexact Hb0
    isplitl [Hb1]; · iexact Hb1
    isplitl [Hb2]; · iexact Hb2
    iexact Hb3
  isplitl [Hx Hy Ho]
  · isplitl [Hx]; · iexists _; iexact Hx
    isplitl [Hy]; · iexists _; iexact Hy
    iexists _; iexact Ho
  isplitl [H0 H1 H2 H3 H4 H5]
  · isplitl [H0]; · iexact H0
    isplitl [H1]; · iexact H1
    isplitl [H2]; · iexact H2
    isplitl [H3]; · iexact H3
    isplitl [H4]; · iexact H4
    iexact H5
  iexists _; iexact HO

/-! ## The tile's own cells and buffers -/

theorem cell_ne {a b : SemLoc sig} (h : a ≠ b) : ((tid d L, a) : GSem nD τ sig) ≠ (tid d L, b) := fun e => h (congrArg Prod.snd e)
theorem cell_mem {a : SemLoc sig} (h : a.isScoped .scVector = true) : ((tid d L, a) : GSem nD τ sig) ∈ ownCells (tid d L) :=
  mem_ownCells.mpr ⟨rfl, h⟩

/-- The six transfer cells among the tile's own. -/
theorem ownSems0_V :
    ∃ R : sProp (MM F), (ownSems0 (tid d L) : sProp (MM F))
      = iprop(semVal (tid d L, .dma cc0_scoped0.sem) 0 ∗ semVal (tid d L, .dma cc0_scoped1.sem) 0 ∗ semVal (tid d L, .dma cc0_scoped2.sem) 0
          ∗ semVal (tid d L, .dma cc0_scoped3.sem) 0 ∗ semVal (tid d L, .dma cc0_scoped4.sem) 0 ∗ semVal (tid d L, .dma cc0_scoped5.sem) 0 ∗ R) := by
  refine ⟨?R, ?_⟩; rotate_left
  unfold SparseCore.Cfg.ownSems0
  rw [SparseCore.bigSep_erase' (i := ((tid d L, .dma cc0_scoped0.sem) : GSem nD τ sig)) (cell_mem d L (by decide)),
    SparseCore.bigSep_erase' (i := ((tid d L, .dma cc0_scoped1.sem) : GSem nD τ sig)) (Finset.mem_erase.mpr ⟨cell_ne d L (by decide), cell_mem d L (by decide)⟩),
    SparseCore.bigSep_erase' (i := ((tid d L, .dma cc0_scoped2.sem) : GSem nD τ sig)) (Finset.mem_erase.mpr ⟨cell_ne d L (by decide),
      Finset.mem_erase.mpr ⟨cell_ne d L (by decide), cell_mem d L (by decide)⟩⟩),
    SparseCore.bigSep_erase' (i := ((tid d L, .dma cc0_scoped3.sem) : GSem nD τ sig)) (Finset.mem_erase.mpr ⟨cell_ne d L (by decide),
      Finset.mem_erase.mpr ⟨cell_ne d L (by decide), Finset.mem_erase.mpr ⟨cell_ne d L (by decide), cell_mem d L (by decide)⟩⟩⟩),
    SparseCore.bigSep_erase' (i := ((tid d L, .dma cc0_scoped4.sem) : GSem nD τ sig)) (Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L (by decide)⟩⟩⟩⟩),
    SparseCore.bigSep_erase' (i := ((tid d L, .dma cc0_scoped5.sem) : GSem nD τ sig)) (Finset.mem_erase.mpr ⟨cell_ne d L (by decide),
      Finset.mem_erase.mpr ⟨cell_ne d L (by decide), Finset.mem_erase.mpr ⟨cell_ne d L (by decide), Finset.mem_erase.mpr ⟨cell_ne d L (by decide),
        Finset.mem_erase.mpr ⟨cell_ne d L (by decide), cell_mem d L (by decide)⟩⟩⟩⟩⟩)]

/-- The three scratches among the tile's own buffers. -/
theorem ownBufs_V :
    ∃ R : sProp (MM F), (ownBufs (tid d L) : sProp (MM F)) = iprop((∃ f, xPt d L f) ∗ (∃ f, yPt d L f) ∗ (∃ f, oPt d L f) ∗ R) := by
  refine ⟨?R, ?_⟩; rotate_left
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]
  rfl

/-- The printed kernel on one tile, from what its call hands it and the tile's own scoped state. -/
theorem tile_body (hF : (K (F := F)).Facts) (O : CellTallies nD τ sig (HIx 1)) (W : Waits sig (HIx 1)) (hO : ∀ g, O g none = 0)
    (gx gy : Vec F S16384 .f32) (fd : Vec F S16384x256 .f32) :
    iprop(levAts (K (F := F)).L (K (F := F)).lev ∗ emp ∗ tilePts d gx gy fd (widL L)
        ∗ scopedBufs (tid d L) ∗ scopedSems0 (tid d L) ∗ owes (tid d L) O W)
      ⊢ wp frame (wpE (defs₀ (F := F)) 𝒱₀ (tid d L) none) Set.univ
          (cc0__occupancy_body L xsM (Memref.isWhole_whole _) ysM (Memref.isWhole_whole _) occM (Memref.isWhole_whole _)
            xM (Memref.isWhole_whole _) yM (Memref.isWhole_whole _) oM (Memref.isWhole_whole _)
            cc0_scoped0 cc0_scoped1 cc0_scoped2 cc0_scoped3 cc0_scoped4 cc0_scoped5)
          fun _ => iprop(tilePts d gx gy (occV gx gy) (widL L) ∗ scopedBufs (tid d L) ∗ scopedSems0 (tid d L)
            ∗ ∃ W', ⌜∀ p ∈ W', p ∈ W ∨ p.2 = none ∨ p.2 = some (0 : Fin 1)⌝ ∗ owes (tid d L) O W') := by
  obtain ⟨RS, hS⟩ := ownSems0_V (F := F) d L
  obtain ⟨RB, hB⟩ := ownBufs_V (F := F) d L
  rw [(K (F := F)).scopedBufs_V hF d (cV L) (jV L), SparseCore.Cfg.scopedSems0_V (Val := Elt F) d (cV L) (jV L), hS, hB, body_eq]
  iintro ⟨#Hlv, -, Hp, ⟨⟨%fx, Hx⟩, ⟨%fy, Hy⟩, ⟨%f, Ho⟩, HB⟩, ⟨H0, H1, H2, H3, H4, H5, HS⟩, HO⟩
  iapply (wp_wand_r frame _ _)
  isplitl [Hp Hx Hy Ho H0 H1 H2 H3 H4 H5 HO]
  · iapply (wp_tile d L O W hO gx gy fx fy f fd)
    isplitr; · iexact Hlv
    isplitl [Hp]; · iexact Hp
    isplitl [Hx Hy Ho]
    · isplitl [Hx]; · iexact Hx
      isplitl [Hy]; · iexact Hy
      iexact Ho
    isplitl [H0 H1 H2 H3 H4 H5]
    · isplitl [H0]; · iexact H0
      isplitl [H1]; · iexact H1
      isplitl [H2]; · iexact H2
      isplitl [H3]; · iexact H3
      isplitl [H4]; · iexact H4
      iexact H5
    iexact HO
  iintro %_ ⟨Hp, ⟨Hx, Hy, Ho⟩, ⟨H0, H1, H2, H3, H4, H5⟩, %W', HO⟩
  isplitl [Hp]; · iexact Hp
  isplitl [Hx Hy Ho HB]
  · isplitl [Hx]; · iexact Hx
    isplitl [Hy]; · iexact Hy
    isplitl [Ho]; · iexact Ho
    iexact HB
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iexists W'; isplitr
  · ipureintro; intro p _
    rcases p.2 with _ | q
    · exact .inr (.inl rfl)
    · exact .inr (.inr (congrArg some (Subsingleton.elim q 0)))
  iexact HO

end Cert.Proof.Run

end
-- ==== Proof.Region.lean ====
/-
  The linear layer on the TensorCore: its body on one block of 512 rows, and the whole call, which takes the occupancy, the
  transposed weights and the bias to the layer's output.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.FrameBody
public import Idealize.ShloMosaic.Lib.Pipeline.Regions
public import Idealize.ShloMosaic.Lib.VecWindow

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation)
open Idealize.ShloMosaic.ValueKit
open Cert.Proof.Values

variable {F : FTy → Type} [FloatOps F] [Named F]

/-! ## One block -/

/-- A load of a whole buffer reads what the buffer reads. -/
theorem readAt_full {κ : Kind} {sp : Space} {s : Shape} {e : EltTy} (v : View sig κ sp s e) {off : Fin s.rank → ℕ} (h : ∀ a, off a + s.size a ≤ s.size a)
    (f : v.ty.Contents (Elt F)) : v.readAt (Elt F) (Rect.unit off s.size h).toLoadRect f = v.read (Elt F) f :=
  funext fun x => congrArg (v.read (Elt F) f) (Rect.emb_unit_full h x)

/-- The body on any four whole buffers: from three of them read as `X0`, `X1`, `X2` it leaves the fourth at the block of the
    layer computed from them. -/
theorem wp_linear (c : Dev nD) (i : grid1.Coords) (M0 : Memref sig .tc .vmem S512x256 .f32) (h0 : M0.IsWhole) (M1 : Memref sig .tc .vmem S256x128 .f32) (h1 : M1.IsWhole)
    (M2 : Memref sig .tc .vmem S1x128 .f32) (h2 : M2.IsWhole) (M3 : Memref sig .tc .vmem S512x128 .f32) (h3 : M3.IsWhole)
    (X0 : Vec F S512x256 .f32) (X1 : Vec F S256x128 .f32) (X2 : Vec F S1x128 .f32) (X3 : Vec F S512x128 .f32) :
    iprop(owns (c : Thread nD τ) M0 fullShare X0 ∗ owns (c : Thread nD τ) M1 fullShare X1 ∗ owns (c : Thread nD τ) M2 fullShare X2 ∗ owns (c : Thread nD τ) M3 fullShare X3)
      ⊢ (wp frame (wpE (defs₀ (F := F)) Variants.none c none) Set.univ (cc1__linear_body i M0 h0 M1 h1 M2 h2 M3 h3) fun _ =>
        iprop(owns (c : Thread nD τ) M0 fullShare X0 ∗ owns (c : Thread nD τ) M1 fullShare X1 ∗ owns (c : Thread nD τ) M2 fullShare X2
          ∗ owns (c : Thread nD τ) M3 fullShare (k1_pay1 X0 X1 X2)) : sProp (MM F)) := by
  rw [cc1__linear_body_eq_skeleton]
  unfold cc1__linear_body_skel owns
  iintro ⟨⟨%f0, %e0, H0⟩, ⟨%f1, %e1, H1⟩, ⟨%f2, %e2, H2⟩, ⟨%f3, -, H3⟩⟩
  sl_exec
  sl_step
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists _; isplitr; swap; (· iexact H3)
  ipureintro
  subst e0 e1 e2
  funext y
  refine (View.read_writes_cons_hit _ _ (Rect.unit ![0, 0] S512x128.size inb_S512x128_S512x128_0_0) _ [] y y
    (Rect.emb_unit_full (s := S512x128) (off := ![0, 0]) inb_S512x128_S512x128_0_0 y)).trans ?_
  rw [readAt_full, readAt_full, readAt_full]

/-! ## The proof data of the call -/

/-- Block `q` of 512 rows of the occupancy. -/
def rowsAt (occ : Vec F S16384x256 .f32) (q : Fin 32) : Vec F S512x256 .f32 := fun j =>
  occ (ix2 ⟨512 * q.val + (j 0).val, by have := (j 0).isLt; have : (j 0).val < 512 := this; have := q.isLt; omega⟩ (j 1))

/-- The layer's output: each block of 512 rows from the same rows of the occupancy. -/
def linV (occ : Vec F S16384x256 .f32) (wt : Vec F S256x128 .f32) (b : Vec F S1x128 .f32) : Vec F S16384x128 .f32 := fun i =>
  k1_pay1 (rowsAt occ ⟨(i 0).val / 512, by have : (i 0).val < 16384 := (i 0).isLt; omega⟩) wt b
    (ix2 ⟨(i 0).val % 512, Nat.mod_lt _ (by decide)⟩ (i 1))

variable (V : (c : Dev nD) → (b : Ref sig .tc) → Buf (Elt F) ((c : Thread nD τ).loc b))

/-- What each fetch stages of the three operands at point `t`. -/
abbrev stg0 (c : Dev nD) (t : Fin cfg1.N) : Vec F S512x256 .f32 := ((cfg1.win 0).blk t).view.read (Elt F) (V c main_v10)
abbrev stg1 (c : Dev nD) (t : Fin cfg1.N) : Vec F S256x128 .f32 := ((cfg1.win 1).blk t).view.read (Elt F) (V c main_v11)
abbrev stg2 (c : Dev nD) (t : Fin cfg1.N) : Vec F S1x128 .f32 := ((cfg1.win 2).blk t).view.read (Elt F) (V c main_v12)

abbrev Φc (c : Dev nD) : sProp (MM F) := Pipeline.scopedRest (Ix := HIx 1) (Name := ℕ) (U := UU) (Lvl := ℕ) (Val := Elt F) spec1 c

/-- The proof data: the arrays at the valuation; after the body the operands' buffers as fetched and the result's at the
    block computed from them; nothing owed. -/
def dat (c : Dev nD) : Dat τ (Elt F) (HIx 1) ℕ UU ℕ cfg1 c where
  A w := V c (Pipeline.arrRef spec1 w)
  after w t := match w with
    | ⟨0, _⟩ => stg0 V c t
    | ⟨1, _⟩ => stg1 V c t
    | ⟨2, _⟩ => stg2 V c t
    | ⟨3, _⟩ => k1_pay1 (stg0 V c t) (stg1 V c t) (stg2 V c t)
  Φ _ := Φc c
  q _ := fullShare
  owed _ := 0

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (x) : (dat V c).before 0 t x = stg0 V c t :=
  (dat V c).before_in_eq_fetched 0 rfl (fun _ => rfl) (fun _ _ _ => rfl) (fun _ => rfl) t x
theorem before1 (c : Dev nD) (t : Fin cfg1.N) (x) : (dat V c).before 1 t x = stg1 V c t :=
  (dat V c).before_in_eq_fetched 1 rfl (fun _ => rfl) (fun _ _ _ => rfl) (fun _ => rfl) t x
theorem before2 (c : Dev nD) (t : Fin cfg1.N) (x) : (dat V c).before 2 t x = stg2 V c t :=
  (dat V c).before_in_eq_fetched 2 rfl (fun _ => rfl) (fun _ _ _ => rfl) (fun _ => rfl) t x

/-- The body at every point leaves what the proof data says. -/
theorem body_obligation (c : Dev nD) : BodyObligation (dat V c) (defs₀ (F := F)) 𝒱₀ none Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  iintro ⟨HΦ, HO, ⟨%d0, H0⟩, ⟨%d1, H1⟩, ⟨%d2, H2⟩, ⟨%d3, H3⟩⟩
  rw [before0, before1, before2]
  iapply (wp_wand_r frame _ Set.univ)
  isplitl [H0 H1 H2 H3]
  · iapply (wp_linear (F := F) c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (stg0 V c t) (stg1 V c t) (stg2 V c t) _)
    isplitl [H0]; · iexact H0
    isplitl [H1]; · iexact H1
    isplitl [H2]; · iexact H2
    iexact H3
  iintro %u ⟨H0, H1, H2, H3⟩
  isplitl [HΦ]; · iexact HΦ
  isplitl [HO]; · iexact HO
  isplitl [H0]; · iexact H0
  isplitl [H1]; · iexact H1
  isplitl [H2]; · iexact H2
  iexact H3

/-! ## What the call leaves -/

theorem idx0 : ∀ t : Fin cfg1.N, win1_0.index t = ![t.val, 0] := (by decide +kernel : ∀ t : Fin grid1.N, win1_0.index t = ![t.val, 0])
theorem idx1 : ∀ t : Fin cfg1.N, win1_1.index t = ![0, 0] := (by decide +kernel : ∀ t : Fin grid1.N, win1_1.index t = ![0, 0])
theorem idx2 : ∀ t : Fin cfg1.N, win1_2.index t = ![0, 0] := (by decide +kernel : ∀ t : Fin grid1.N, win1_2.index t = ![0, 0])
theorem idx3 : ∀ t : Fin cfg1.N, win1_3.index t = ![t.val, 0] := (by decide +kernel : ∀ t : Fin grid1.N, win1_3.index t = ![t.val, 0])

theorem stg0_eq (c : Dev nD) (t : Fin cfg1.N) : stg0 V c t = rowsAt (V c main_v10) ⟨t.val, t.isLt⟩ := by
  funext y
  blk_simp [stg0, rowsAt]
  refine congrArg (V c main_v10 : Vec F S16384x256 .f32) ?_
  blk_ext [idx0]

theorem stg1_eq (c : Dev nD) (t : Fin cfg1.N) : stg1 V c t = (V c main_v11 : Vec F S256x128 .f32) := by
  funext y
  blk_simp [stg1]
  refine congrArg (V c main_v11 : Vec F S256x128 .f32) ?_
  blk_ext [idx1]

theorem stg2_eq (c : Dev nD) (t : Fin cfg1.N) : stg2 V c t = (V c main_v12 : Vec F S1x128 .f32) := by
  funext y
  blk_simp [stg2]
  refine congrArg (V c main_v12 : Vec F S1x128 .f32) ?_
  blk_ext [idx2]

/-- The result's array after the call is the layer's output. -/
theorem final_out (c : Dev nD) : (dat V c).arrAt 3 cfg1.N = linV (V c main_v10) (V c main_v11) (V c main_v12) := by
  refine (dat V c).arrAt_eq_of_covers 3 _ (by decide +kernel) fun t hf y => ?_
  blk_simp
  show k1_pay1 (stg0 V c t) (stg1 V c t) (stg2 V c t) y = _
  rw [stg0_eq, stg1_eq, stg2_eq]
  have h0 : (((win1_3.blk t).view.emb y) 0).val = t.val * 512 + (y 0).val := by blk_simp [idx3]
  have h1 : (((win1_3.blk t).view.emb y) 1).val = (y 1).val := by blk_simp [idx3]
  have hy0 : (y 0).val < 512 := (y 0).isLt
  unfold linV
  have e : ∀ (q q' : Fin 32) (z z' : S512x128.Idx), q = q' → z = z' →
      k1_pay1 (rowsAt (V c main_v10 : Vec F S16384x256 .f32) q) (V c main_v11 : Vec F S256x128 .f32) (V c main_v12 : Vec F S1x128 .f32) z
        = k1_pay1 (rowsAt (V c main_v10 : Vec F S16384x256 .f32) q') (V c main_v11 : Vec F S256x128 .f32) (V c main_v12 : Vec F S1x128 .f32) z' := by
    rintro q _ z _ rfl rfl; rfl
  refine e _ _ _ _ (Fin.ext ?_) (funext fun a => ?_)
  · show t.val = _ / 512; omega
  · refine Fin.ext ?_
    match a with
    | 0 => show (y 0).val = _ % 512; omega
    | 1 => exact h1.symm

/-! ## The call over the thread's state -/

variable (Vp : (c : Dev nD) → (b : Ref sig .tc) → Buf (Elt F) ((c : Thread nD τ).loc b))
variable (Lc : GSem nD τ sig → Finset (HIx 1)) (lvc : GSem nD τ sig → HIx 1 → ℕ)

set_option backward.isDefEq.respectTransparency.types false in
/-- The call, entered with every unscoped buffer at `V`, left with them at `Vp`: `V` with the result at the layer's output. -/
def reg (hout : ∀ c, Vp c main_v13 = linV (V c main_v10) (V c main_v11) (V c main_v12))
    (hne : ∀ c (b : Ref sig .tc), b ≠ main_v13 → Vp c b = V c b) : Pipeline.RegionSeg (pcfgs (F := F)) adm (pdats V adm) none defs₀ 𝒱₀ Lc lvc 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ Lc lvc 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hne c main_v10 (by decide)).symm
        · exact ((pdats V adm 0 c).arrAt_in 1 rfl _).trans (hne c main_v11 (by decide)).symm
        · exact ((pdats V adm 0 c).arrAt_in 2 rfl _).trans (hne c main_v12 (by decide)).symm
        · exact (final_out V c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Run

end
-- ==== Proof.Handshake.lean ====
/-
  What the SparseCore call carries: each core its words of the two coordinate arrays and its rows of the occupancy, each
  tile its own; back come the same coordinates and the rows at the occupancy. And the ghost state the launch starts from.
-/
module

public import proofs.«01_k».proof.Proof.Body
public import proofs.«01_k».proof.Proof.Region

@[expose] public section

noncomputable section

namespace Cert.Proof.Run

open Cert.KernelIdeal Cert.KernelIdeal.Gen Cert.Proof.Trip Cert.Proof.Values
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

-- the coordinates the host computed, per device, and what the occupancy array held before the call
variable (gx gy : Dev nD → Vec F S16384 .f32) (fd : Dev nD → Vec F S16384x256 .f32)

/-- One core's words and rows. -/
abbrev corePts (d : Dev nD) (f : Vec F S16384x256 .f32) (c : Fin 2) : sProp (MM F) :=
  iprop((xsLoc d ↦[coreX c]{fullShare} gx d) ∗ (ysLoc d ↦[coreX c]{fullShare} gy d) ∗ (occLoc d ↦[coreO c]{fullShare} f))

/-- What the occupancy array holds after the call. -/
abbrev occOf (d : Dev nD) : Vec F S16384x256 .f32 := occV (gx d) (gy d)

def P : (K (F := F)).Pay (nD := nD) (Val := Elt F) (Name := ℕ) (U := UU) where
  st := fun q d c => match q with | 0 => corePts gx gy d (fd d) (Fin.cast nCore_zero c)
  dn := fun q d c => match q with | 0 => corePts gx gy d (occOf gx gy d) (Fin.cast nCore_zero c)
  go := fun q d c i => match q with | 0 => tilePts d (gx d) (gy d) (fd d) (wid (Fin.cast nCore_zero c) (Fin.cast nSub_zero i))
  td := fun q d c i => match q with | 0 => tilePts d (gx d) (gy d) (occOf gx gy d) (wid (Fin.cast nCore_zero c) (Fin.cast nSub_zero i))
  x := fun _ _ => iprop(emp)

instance P_storable : (P gx gy fd).IsStorable where
  st q d c := match q with
    | 0 => (inferInstance : BI.Storable (upEmb : UEmb _ (MM F)) (corePts gx gy d (fd d) (Fin.cast nCore_zero c)))
  dn q d c := match q with
    | 0 => (inferInstance : BI.Storable (upEmb : UEmb _ (MM F)) (corePts gx gy d (occOf gx gy d) (Fin.cast nCore_zero c)))
  go q d c i := match q with
    | 0 => (inferInstance : BI.Storable (upEmb : UEmb _ (MM F)) (tilePts d (gx d) (gy d) (fd d) (wid (Fin.cast nCore_zero c) (Fin.cast nSub_zero i))))
  td q d c i := match q with
    | 0 => (inferInstance : BI.Storable (upEmb : UEmb _ (MM F)) (tilePts d (gx d) (gy d) (occOf gx gy d) (wid (Fin.cast nCore_zero c) (Fin.cast nSub_zero i))))

/-! ## Each tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__occupancy_body (coordsV c s) xsM (Memref.isWhole_whole _) ysM (Memref.isWhole_whole _)
          occM (Memref.isWhole_whole _) xM (Memref.isWhole_whole _) yM (Memref.isWhole_whole _) oM (Memref.isWhole_whole _)
          cc0_scoped0 cc0_scoped1 cc0_scoped2 cc0_scoped3 cc0_scoped4 cc0_scoped5) ⟨⟩ c s := rfl

/-- Every tile runs its task: from its pieces at what the call carries, to them at the occupancy. -/
theorem tileObl (hF : (K (F := F)).Facts) : (K (F := F)).TileObl (D (F := F)) 𝒱 (P gx gy fd) v₀ 0 := by
  intro d c i O W hO _ _
  simp only [show (P gx gy fd).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (gx d) (gy d) (fd d)

/-! ## The pieces of a core split among its tiles and come back -/

omit [FloatOps F] [Named F] in
theorem core_xs (d : Dev nD) (g : Vec F S16384 .f32) (c : Fin 2) :
    (xsLoc d ↦[coreX c]{fullShare} g : sProp (MM F)) = bigSep Finset.univ fun s : Fin 16 => xsLoc d ↦[tileX (wid c s)]{fullShare} g := by
  rw [← pointsTo_biUnion Finset.univ (ℓ := xsLoc d) (fun s => tileX (wid c s)) (tileX_disjoint c), tileX_cover]
omit [FloatOps F] [Named F] in
theorem core_ys (d : Dev nD) (g : Vec F S16384 .f32) (c : Fin 2) :
    (ysLoc d ↦[coreX c]{fullShare} g : sProp (MM F)) = bigSep Finset.univ fun s : Fin 16 => ysLoc d ↦[tileX (wid c s)]{fullShare} g := by
  rw [← pointsTo_biUnion Finset.univ (ℓ := ysLoc d) (fun s => tileX (wid c s)) (tileX_disjoint c), tileX_cover]
omit [FloatOps F] [Named F] in
theorem core_occ (d : Dev nD) (f : Vec F S16384x256 .f32) (c : Fin 2) :
    (occLoc d ↦[coreO c]{fullShare} f : sProp (MM F)) = bigSep Finset.univ fun s : Fin 16 => occLoc d ↦[tileO (wid c s)]{fullShare} f := by
  rw [← pointsTo_biUnion Finset.univ (ℓ := occLoc d) (fun s => tileO (wid c s)) (tileO_disjoint c), tileO_cover]

theorem corePts_tiles (d : Dev nD) (f : Vec F S16384x256 .f32) (c : Fin 2) :
    corePts gx gy d f c = bigSep Finset.univ fun s : Fin 16 => tilePts d (gx d) (gy d) f (wid c s) := by
  unfold corePts tilePts
  rw [core_xs, core_ys, core_occ, bigSep_sep', bigSep_sep']

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P gx gy fd) 0 := by
  intro d c
  show corePts gx gy d (fd d) (Fin.cast nCore_zero c) ⊢ |={Set.univ}=> iprop(
      (bigSep Finset.univ fun i : Fin ((K (F := F)).nSub 0) => tilePts d (gx d) (gy d) (fd d) (wid (Fin.cast nCore_zero c) (Fin.cast nSub_zero i)))
      ∗ ((bigSep Finset.univ fun i : Fin ((K (F := F)).nSub 0) => tilePts d (gx d) (gy d) (occOf gx gy d) (wid (Fin.cast nCore_zero c) (Fin.cast nSub_zero i)))
          -∗ corePts gx gy d (occOf gx gy d) (Fin.cast nCore_zero c)))
  rw [bigSep_tasks (F := F) (fun i => tilePts d (gx d) (gy d) (fd d) (wid (Fin.cast nCore_zero c) i)),
    bigSep_tasks (F := F) (fun i => tilePts d (gx d) (gy d) (occOf gx gy d) (wid (Fin.cast nCore_zero c) i)), corePts_tiles, corePts_tiles]
  iintro H; imodintro
  isplitl [H]; · iexact H
  iintro H; iexact H

/-! ## The pieces of the cores make the arrays -/

theorem cores_whole (d : Dev nD) (f : Vec F S16384x256 .f32) :
    (iprop((xsLoc d ↦{fullShare} gx d) ∗ (ysLoc d ↦{fullShare} gy d) ∗ (occLoc d ↦{fullShare} f)) : sProp (MM F))
      = bigSep Finset.univ fun c : Fin 2 => corePts gx gy d f c := by
  unfold corePts
  rw [bigSep_sep', bigSep_sep', ← pointsTo_biUnion Finset.univ (ℓ := xsLoc d) coreX coreX_disjoint,
    ← pointsTo_biUnion Finset.univ (ℓ := ysLoc d) coreX coreX_disjoint, ← pointsTo_biUnion Finset.univ (ℓ := occLoc d) coreO coreO_disjoint, coreX_cover, coreO_cover]

theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

theorem st_eq (d : Dev nD) : (bigSep Finset.univ fun c : Fin ((K (F := F)).nCore 0) => (P gx gy fd).st 0 d c)
    = iprop((xsLoc d ↦{fullShare} gx d) ∗ (ysLoc d ↦{fullShare} gy d) ∗ (occLoc d ↦{fullShare} fd d)) :=
  (bigSep_cores (F := F) (fun c => corePts gx gy d (fd d) c)).trans (cores_whole gx gy d _).symm
theorem dn_eq (d : Dev nD) : (bigSep Finset.univ fun c : Fin ((K (F := F)).nCore 0) => (P gx gy fd).dn 0 d c)
    = iprop((xsLoc d ↦{fullShare} gx d) ∗ (ysLoc d ↦{fullShare} gy d) ∗ (occLoc d ↦{fullShare} occOf gx gy d)) :=
  (bigSep_cores (F := F) (fun c => corePts gx gy d (occOf gx gy d) c)).trans (cores_whole gx gy d _).symm

/-! ## The ghost state at the launch -/

/-- The TensorCore call's rounds, as a part of the proof's ghost state. -/
abbrev EP : Emb UR (MM F) := (Emb.inl : Emb UR (UR × Counters)).trans embR

instance EP_landsIn : (EP : Emb UR (MM F)).LandsIn (upEmb : UEmb _ (MM F)) := by unfold EP; infer_instance

abbrev adm : (p : Fin 1) → (pcfgs (F := F) p).Adm := fun p => (cfgs p).toPCfg_adm

theorem phinj : Function.Injective (Pipeline.cellOf (nD := nD) (τ := τ) (Pipeline.pin (pcfgs (F := F)) adm)) := cellOf_inj

/-- What each device gets for the TensorCore call. -/
abbrev GG (d : Dev nD) : sProp (MM F) :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

omit [FloatOps F] [Named F] in
theorem one_call (Φ : Dev nD → Fin 1 → sProp (MM F)) :
    (bigSep Finset.univ fun d : Dev nD => bigSep Finset.univ fun p : Fin 1 => Φ d p) = bigSep Finset.univ fun d : Dev nD => Φ d 0 :=
  bigSep_congr fun _ _ => bigSep_univ_of_subsingleton (0 : Fin 1)
omit [FloatOps F] [Named F] in
theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (P gx gy fd).x q thr) := by
  unfold u₀
  iintro Hu
  ihave H := (ownU_pair _ _) $$ Hu
  icases H with ⟨HH, HR⟩
  ihave H := (own_pair_emb _ _ _) $$ HR
  icases H with ⟨HR, -⟩
  imod (Pipeline.fund_ghost (Pipeline.pin (pcfgs (F := F)) adm) EP phinj) $$ HR with ⟨Hc, Ht⟩
  imodintro
  isplitl [HH]; · iexact HH
  isplitl [Hc Ht]
  · unfold GG
    rw [bigSep_sep']
    isplitl [Hc]
    · iapply (Entails.of_eq (one_call fun d p => Pipeline.cellsGhost (Pipeline.pin (pcfgs (F := F)) adm) EP p d)); iexact Hc
    · iapply (Entails.of_eq (one_call fun d p => Pipeline.toksInit (Pipeline.pin (pcfgs (F := F)) adm) EP p d)); iexact Ht
  rw [show (bigSep Finset.univ fun thr : Thread nD τ => bigSep Finset.univ fun q : Fin 1 => (P gx gy fd).x q thr) = bigSep Finset.univ fun _ => iprop(emp) from
    bigSep_congr fun _ _ => bigSep_univ_of_subsingleton (0 : Fin 1), bigSep_nothing]
  iempintro

end Cert.Proof.Run

end
-- ==== Proof.Main.lean ====
/-
  The whole program on one device: the host's operations before the SparseCore call, that call, the host's two operations after
  it, the linear layer; what every buffer holds at each stage.
-/
module

public import proofs.«01_k».proof.Proof.Handshake
public import Idealize.ShloMosaic.Lib.Pipeline.Frame

@[expose] public section

noncomputable section

namespace Cert.Proof.Run

open Cert.KernelIdeal Cert.KernelIdeal.Gen Cert.Proof.Trip Cert.Proof.Values
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The host's operations -/

/-- Before the SparseCore call: tracks with a coordinate that is no number moved to -500, the two flat coordinate arrays. -/
def preOps : List (HloOp τ sig (Elt F)) :=
  [ StableHlo.binary main_arg2 main_arg2 main_v0 (cmpf .une : (⟨S32x512x2, .f32⟩ : BufTy).Contents (Elt F) → (⟨S32x512x2, .f32⟩ : BufTy).Contents (Elt F) → (⟨S32x512x2, .i1⟩ : BufTy).Contents (Elt F)),
    StableHlo.nullary main_c (constantI S_ 1 0#1),
    StableHlo.binary main_v0 main_c main_v1 ((fun x v => Host.reduce IntOp.ori x v reducesTo_S32x512x2_S32x512_d2 h_S_) : (⟨S32x512x2, .i1⟩ : BufTy).Contents (Elt F) → (⟨S_, .i1⟩ : BufTy).Contents (Elt F) → (⟨S32x512, .i1⟩ : BufTy).Contents (Elt F)),
    StableHlo.unary main_v1 main_v2 (broadcastInDim S32x512x1 ![0, 1] bcast_S32x512_S32x512x1_0_1 : (⟨S32x512, .i1⟩ : BufTy).Contents (Elt F) → (⟨S32x512x1, .i1⟩ : BufTy).Contents (Elt F)),
    StableHlo.nullary main_cst (constant S_ .f32 0xC3FA0000#32),
    StableHlo.TRef.unary (StableHlo.TRef.of main_cst : StableHlo.TRef sig ⟨S_, .f32⟩) main_call0.v0 id,
    StableHlo.TRef.unary (StableHlo.TRef.of main_v2 : StableHlo.TRef sig ⟨S32x512x1, .i1⟩) main_call0.v1 (broadcastInDim S32x512x2 ![0, 1, 2] bcast_S32x512x1_S32x512x2_0_1_2),
    StableHlo.TRef.unary main_call0.v0 main_call0.v2 (broadcastInDim S32x512x2 ![] bcast_S_S32x512x2),
    StableHlo.TRef.ternary main_call0.v1 main_call0.v2 (StableHlo.TRef.of main_arg2 : StableHlo.TRef sig ⟨S32x512x2, .f32⟩) main_call0.v3 select,
    StableHlo.unary main_v3 main_v4 ((extractStridedSlice S32x512x1 ![0, 0, 0] · slices_S32x512x2_S32x512x1_0_0_0) : (⟨S32x512x2, .f32⟩ : BufTy).Contents (Elt F) → (⟨S32x512x1, .f32⟩ : BufTy).Contents (Elt F)),
    StableHlo.reshape main_v4 main_v5 (rfl : (.f32 : EltTy) = .f32) shapeCasts_S32x512x1_S32x512,
    StableHlo.reshape main_v5 main_v6 (rfl : (.f32 : EltTy) = .f32) shapeCasts_S32x512_S16384,
    StableHlo.unary main_v3 main_v7 ((extractStridedSlice S32x512x1 ![0, 0, 1] · slices_S32x512x2_S32x512x1_0_0_1) : (⟨S32x512x2, .f32⟩ : BufTy).Contents (Elt F) → (⟨S32x512x1, .f32⟩ : BufTy).Contents (Elt F)),
    StableHlo.reshape main_v7 main_v8 (rfl : (.f32 : EltTy) = .f32) shapeCasts_S32x512x1_S32x512,
    StableHlo.reshape main_v8 main_v9 (rfl : (.f32 : EltTy) = .f32) shapeCasts_S32x512_S16384 ]

/-- After it: the weights transposed, the bias as a row. -/
def postOps : List (HloOp τ sig (Elt F)) :=
  [ StableHlo.unary main_arg3 main_v11 ((transpose S256x128 [1, 0] · transposes_S128x256_S256x128_1_0) : (⟨S128x256, .f32⟩ : BufTy).Contents (Elt F) → (⟨S256x128, .f32⟩ : BufTy).Contents (Elt F)),
    StableHlo.reshape main_arg4 main_v12 (rfl : (.f32 : EltTy) = .f32) shapeCasts_S128_S1x128 ]

theorem main_eq (d : Dev nD) : main (F := F) d = (StableHlo.seq preOps >>= fun _ => (sc (F := F)).run d 0 >>= fun _ => StableHlo.seq postOps >>= fun _ =>
    Prog.lift (.customCall (SparseCore.inner (Pipeline.entry 0)) ()) >>= fun _ => pure ⟨⟩) := by
  simp only [main, fn_where.body, preOps, postOps, StableHlo.seq, bind_assoc, pure_bind]

theorem preOps_sub : (preOps (F := F)).Forall fun op => op.bufs ⊆ StableHlo.tcRefs τ sig := by
  unfold preOps
  exact ⟨StableHlo.binary_bufs_sub .., StableHlo.nullary_bufs_sub .., StableHlo.binary_bufs_sub .., StableHlo.unary_bufs_sub .., StableHlo.nullary_bufs_sub ..,
    StableHlo.unary_bufs_sub .., StableHlo.unary_bufs_sub .., StableHlo.unary_bufs_sub .., StableHlo.ternary_bufs_sub ..,
    StableHlo.unary_bufs_sub .., StableHlo.reshape_bufs_sub .., StableHlo.reshape_bufs_sub .., StableHlo.unary_bufs_sub .., StableHlo.reshape_bufs_sub .., StableHlo.reshape_bufs_sub ..⟩
theorem postOps_sub : (postOps (F := F)).Forall fun op => op.bufs ⊆ StableHlo.tcRefs τ sig :=
  ⟨StableHlo.unary_bufs_sub .., StableHlo.reshape_bufs_sub ..⟩
theorem preOps_fresh : (preOps (F := F)).Forall fun op => op.fresh = ∅ := StableHlo.forall_fresh_of_map rfl
theorem postOps_fresh : (postOps (F := F)).Forall fun op => op.fresh = ∅ := StableHlo.forall_fresh_of_map rfl

/-! ## What the buffers hold -/

variable (m : (ℓ : Loc nD τ sig) → Buf (Elt F) ℓ) (ρ : Dev nD → PrngReg)

abbrev rX : DevRef τ sig := Proc.devRef .tc main_v6
abbrev rY : DevRef τ sig := Proc.devRef .tc main_v9
abbrev rO : DevRef τ sig := Proc.devRef .tc main_v10
abbrev rOut : DevRef τ sig := Proc.devRef .tc main_v13

/-- Before the SparseCore call. -/
def V1 (d : Dev nD) : Valuation τ sig (Elt F) := StableHlo.after preOps (StableHlo.launchContents m d)
abbrev gx (d : Dev nD) : Vec F S16384 .f32 := V1 m d rX
abbrev gy (d : Dev nD) : Vec F S16384 .f32 := V1 m d rY
abbrev fd (d : Dev nD) : Vec F S16384x256 .f32 := V1 m d rO
/-- After it. -/
def V2 (d : Dev nD) : Valuation τ sig (Elt F) := Function.update (V1 m d) rO (occOf (gx m) (gy m) d)
/-- Before the linear layer. -/
def V3 (d : Dev nD) : Valuation τ sig (Elt F) := StableHlo.after postOps (V2 m d)
/-- The layer's output. -/
def outV (d : Dev nD) : Vec F S16384x128 .f32 :=
  linV (V3 m d (Proc.devRef .tc main_v10)) (V3 m d (Proc.devRef .tc main_v11)) (V3 m d (Proc.devRef .tc main_v12))
/-- At the end. -/
def V4 (d : Dev nD) : Valuation τ sig (Elt F) := Function.update (V3 m d) rOut (outV m d)

/-! ## The run -/

abbrev ucR : Finset (DevRef τ sig) := Pipeline.ucRefs τ sig

theorem mem_uc (b : Ref sig .tc) (h : b.isScoped = false) : (Proc.devRef .tc b : DevRef τ sig) ∈ ucR :=
  Finset.mem_filter.mpr ⟨StableHlo.devRef_mem_tcRefs b, by
    rw [show (Proc.devRef .tc b : DevRef τ sig).isScoped = b.isScoped from rfl, h]; decide⟩

theorem preOps_in : ∀ op ∈ (preOps (F := F)), op.bufs ⊆ ucR := fun op h => Pipeline.sub_ucRefs op (List.forall_iff_forall_mem.mp preOps_sub op h)
theorem postOps_in : ∀ op ∈ (postOps (F := F)), op.bufs ⊆ ucR := fun op h => Pipeline.sub_ucRefs op (List.forall_iff_forall_mem.mp postOps_sub op h)

/-- The buffers the SparseCore call reads and writes. -/
abbrev callRefs : Finset (DevRef τ sig) := {rX, rY, rO}

theorem callRefs_in : callRefs ⊆ ucR := by
  intro b hb
  simp only [callRefs, Finset.mem_insert, Finset.mem_singleton] at hb
  rcases hb with rfl | rfl | rfl
  · exact mem_uc main_v6 rfl
  · exact mem_uc main_v9 rfl
  · exact mem_uc main_v10 rfl

/-- The three together are the three one by one. -/
theorem held_call (d : Dev nD) (V : Valuation τ sig (Elt F)) : (StableHlo.held (SparseCore.T d) callRefs V : sProp (MM F))
    = iprop((xsLoc d ↦{fullShare} V rX) ∗ (ysLoc d ↦{fullShare} V rY) ∗ (occLoc d ↦{fullShare} V rO)) := by
  unfold StableHlo.held callRefs
  rw [bigSep_insert (by decide), bigSep_insert (by decide), bigSep_singleton]
  rfl

theorem V2_rO (d : Dev nD) : V2 m d rO = occOf (gx m) (gy m) d := Function.update_self ..
theorem V2_ne (d : Dev nD) {b : DevRef τ sig} (h : b ≠ rO) : V2 m d b = V1 m d b := Function.update_of_ne h ..

theorem held_rest (d : Dev nD) : (StableHlo.held (SparseCore.T d) (ucR \ callRefs) (V1 m d) : sProp (MM F)) = StableHlo.held (SparseCore.T d) (ucR \ callRefs) (V2 m d) :=
  StableHlo.held_congr _ fun b hb => (V2_ne m d fun h => (Finset.mem_sdiff.mp hb).2 (by rw [h]; simp [callRefs])).symm

/-- What the linear layer is entered with and left with, by buffer. -/
abbrev atEntry (c : Dev nD) (b : Ref sig .tc) : Buf (Elt F) ((c : Thread nD τ).loc b) := V3 m c (Proc.devRef .tc b)
abbrev atExit (c : Dev nD) (b : Ref sig .tc) : Buf (Elt F) ((c : Thread nD τ).loc b) := V4 m c (Proc.devRef .tc b)

theorem atExit_out (c : Dev nD) : atExit m c main_v13 = linV (atEntry m c main_v10) (atEntry m c main_v11) (atEntry m c main_v12) := Function.update_self ..
theorem atExit_ne (c : Dev nD) (b : Ref sig .tc) (h : b ≠ main_v13) : atExit m c b = atEntry m c b :=
  Function.update_of_ne (fun e => h (Proc.devRef_injective _ e)) ..

/-- The linear layer's call. -/
abbrev layer (lv : GSem nD τ sig → HIx 1 → ℕ) := reg (atEntry m) adm (atExit m) (K (F := F)).L lv (atExit_out m) (atExit_ne m)

/-- A device's buffers, by buffer and by reference. -/
theorem bufs_entry (d : Dev nD) : (unscopedBufs d (atEntry m d) : sProp (MM F)) = StableHlo.held (SparseCore.T d) ucR (V3 m d) :=
  Pipeline.unscopedBufs_held (Ix := HIx 1) (Name := ℕ) (U := UU) (Lvl := ℕ) d (V3 m d)
theorem bufs_exit (d : Dev nD) : (unscopedBufs d (atExit m d) : sProp (MM F)) = StableHlo.held (SparseCore.T d) ucR (V4 m d) :=
  Pipeline.unscopedBufs_held (Ix := HIx 1) (Name := ℕ) (U := UU) (Lvl := ℕ) d (V4 m d)
theorem layer_pre (lv : GSem nD τ sig → HIx 1 → ℕ) (d : Dev nD) : (layer m lv).pre d
    = iprop(StableHlo.held (SparseCore.T d) ucR (V3 m d) ∗ ∃ W, owes (d : Thread nD τ) (0 : CellTallies nD τ sig (HIx 1)) W) := by
  rw [← bufs_entry]; rfl
theorem layer_post (lv : GSem nD τ sig → HIx 1 → ℕ) (d : Dev nD) : (layer m lv).post d
    = iprop(StableHlo.held (SparseCore.T d) ucR (V4 m d) ∗ ∃ W, owes (d : Thread nD τ) (0 : CellTallies nD τ sig (HIx 1)) W) := by
  rw [← bufs_exit]; rfl

/-- There is one call only: whatever a thread waited for is within its levels. -/
theorem wBelow_last (thr : Thread nD τ) (W : Waits sig (HIx 1)) : (K (F := F)).WBelow thr W 8 := by
  rintro ⟨g, ι⟩ -
  match ι with
  | none => exact Nat.zero_le _
  | some q =>
    have h := (K (F := F)).lev_some_le (thr, g) q
    have hq : q.val = 0 := by omega
    show (K (F := F)).lev (thr, g) (some q) ≤ 8
    omega

/-- After the one call the TensorCore owes no signal. -/
theorem owes_none (d : Dev nD) : (K (F := F)).Otc (N := 1) d 1 = 0 := by
  unfold SparseCore.Cfg.Otc
  exact Finset.sum_eq_zero fun q _ => by simp

/-- What a device ends with: every unscoped buffer at its last contents. -/
abbrev FIN (d : Dev nD) : sProp (MM F) := StableHlo.held (SparseCore.T d) ucR (V4 m d)

theorem hmain [∀ e, Nonempty (Elt F e)] (κ : GSem nD τ sig → ℕ) (d : Dev nD) :
    iprop((K (F := F)).ctx EH (P (gx m) (gy m) (fd m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = StableHlo.held (SparseCore.T d) ucR (StableHlo.launchContents m d) from
    Pipeline.unscopedBufs_held (Ix := HIx 1) (Name := ℕ) (U := UU) (Lvl := ℕ) d (StableHlo.launchContents m d)]
  iintro ⟨#Hctx, Hst, ⟨Hb, Hh, Hts, -⟩, Hg⟩
  iapply (StableHlo.wp_seq 𝒱 none Set.univ d ucR _ preOps preOps_in (List.forall_iff_forall_mem.mp preOps_fresh) (StableHlo.launchContents m d)) $$ [Hb Hh]
  · isplitl [Hb] <;> iassumption
  iintro ⟨Hb, Hh⟩
  ihave H := (Entails.of_eq (show (StableHlo.held d.tc ucR (StableHlo.after preOps (StableHlo.launchContents m d)) : sProp (MM F)) = _ from
    StableHlo.held_sub_split (SparseCore.T d) callRefs_in (V1 m d))) $$ Hh
  icases H with ⟨Hcall, Hrest⟩
  rw [wp_bind]
  iapply ((K (F := F)).wp_run (D (F := F)) 𝒱 (EH := EH) (P := P (gx m) (gy m) (fd m)) κ d 0) $$ [Hst Hcall Hrest Hb Hts Hg]
  isplitr; · iexact Hctx
  isplitl [Hst]; · iexact Hst
  isplitl [Hcall]
  · rw [st_eq, ← held_call d (V1 m d)]; iexact Hcall
  iintro ⟨Hst, Hdn⟩
  ihave Hcall := (Entails.of_eq ((dn_eq (gx m) (gy m) (fd m) d).trans (show _ = StableHlo.held (SparseCore.T d) callRefs (V2 m d) by
    rw [held_call, V2_rO, V2_ne m d (by decide), V2_ne m d (by decide)]))) $$ Hdn
  ihave Hrest := (Entails.of_eq (held_rest m d)) $$ Hrest
  ihave Hh := (Entails.of_eq (StableHlo.held_sub_split (SparseCore.T d) callRefs_in (V2 m d)).symm) $$ [Hcall Hrest]
  · isplitl [Hcall] <;> iassumption
  iapply (StableHlo.wp_seq 𝒱 none Set.univ d ucR _ postOps postOps_in (List.forall_iff_forall_mem.mp postOps_fresh) (V2 m d)) $$ [Hb Hh]
  · isplitl [Hb] <;> iassumption
  iintro ⟨Hb, Hh⟩
  rw [wp_bind]
  unfold SparseCore.Cfg.tcSt
  icases Hst with ⟨⟨%W, -, HO⟩, Hst⟩
  rw [show (K (F := F)).Otc d ((0 : Fin 1).val + 1) = 0 from owes_none d]
  iapply ((K (F := F)).wp_liftProg (D (F := F)) 𝒱 (SparseCore.T d) Set.univ none (Prog.lift (.customCall (Pipeline.entry 0) ())) _)
  ihave Hlev := (SparseCore.Cfg.ctx_levAts κ) $$ Hctx
  icases Hg with ⟨Hcells, Htoks⟩
  iapply (Pipeline.RegionSeg.wp (pcfgs (F := F)) adm (pdats (atEntry m) adm) none phinj EP defs₀ 𝒱₀ (K (F := F)).L (K (F := F)).lev (layer m (K (F := F)).lev) d none (fun _ h => nomatch h) _ _)
  isplitr [Hb Hh HO Hcells Htoks]
  · rw [layer_post]
    iintro ⟨Hb, ⟨Hh, ⟨%W', HO⟩⟩⟩
    rw [wp_ret]
    imodintro; rw [wp_pure]; imodintro
    rw [owes_none d]
    isplitl [HO Hst]
    · isplitl [HO]
      · iexists W'; isplitr; · ipureintro; exact wBelow_last _ _
        iexact HO
      iexact Hst
    isplitl [Hh]; · iexact Hh
    isplitl [Hb] <;> iassumption
  isplitl [Hb]; · iexact Hb
  isplitl [Hh HO]
  · rw [layer_pre]
    isplitl [Hh]; · iexact Hh
    iexists W; iexact HO
  isplitr; · iexact Hlev
  isplitl [Hcells] <;> iassumption

/-- What a device's memory holds at the end. -/
def fq (d : Dev nD) (s' : Phys nD τ sig (Elt F)) : Prop := ∀ b ∈ ucR, s'.mem.mem (d, b) = V4 m d b

theorem hfin (d : Dev nD) (s' : Phys nD τ sig (Elt F)) : iprop(FIN m d ∗ SI s') ⊢ (⌜fq m d s'⌝ : sProp (MM F)) := by
  unfold FIN StableHlo.held
  iintro ⟨H, HSI⟩
  ihave %h := (SI_pointsTo_bufs_agree (qs := fun _ => fullShare) ucR) $$ [HSI H]
  · isplitl [HSI]; · iexact HSI
    iexact H
  ipureintro
  exact fun b hb => h b hb

/-- Every unscoped buffer at its last contents, every semaphore at zero. -/
def QC : PUnit × MemSt nD τ sig (Elt F) → Prop := fun r => (∀ d : Dev nD, ∀ b ∈ ucR, r.2.mem (d, b) = V4 m d b) ∧ r.2.sem = fun _ => 0

/-- The program from any memory with zero semaphores: every fair run ends, and every unscoped buffer then holds its last contents. -/
theorem run_main [∀ e, Nonempty (Elt F e)] : θ_run (Cert.KernelIdeal.defs (F := F)) (threads (F := F)) ⟨m, fun _ => 0, ρ⟩ (QC m) :=
  SparseCore.Cfg.θ_run_sc_quiescent (K := K (F := F)) (D := D (F := F)) (𝒱 := 𝒱) (EH := EH) (P := P (gx m) (gy m) (fd m)) (A := ∅) facts v₀
    (fun q hq => match q with | 0 => nomatch hq)
    (fun q _ => match q with | 0 => tileObl (gx m) (gy m) (fd m) facts)
    (fun q _ => match q with | 0 => SparseCore.Cfg.VecSplit.of_plain (vecSplit (gx m) (gy m) (fd m)))
    m ρ main (fun d => GG d) (FIN m) (u₀ (F := F)) (sep_elim_left.trans (hu₀ (gx m) (gy m) (fd m))) (hmain m ρ) (fq m) (hfin m) (QC m) (fun _ h hz => ⟨h, hz⟩)

end Cert.Proof.Run

end
-- ==== Proof.Frames.lean ====
/-
  Both programs run and leave their arguments: the idealized one, and the printed one, which over bit patterns is the same
  program with the named constant written out.
-/
module

public import proofs.«01_k».proof.Defs
public import proofs.«01_k».proof.Proof.Gen.Kernel
public import proofs.«01_k».proof.Proof.Main

@[expose] public section

noncomputable section

namespace Cert.Proof.Run

open Cert.KernelIdeal Cert.KernelIdeal.Gen
open Idealize.ShloMosaic Idealize.ShloMosaic.TcCoe
open Idealize.SL Idealize.SL.Sem

section Args

variable {F : FTy → Type} [FloatOps F] [Named F] (m : (ℓ : Loc nD τ sig) → Buf (Elt F) ℓ)

/-- What the host's operations before the SparseCore call write, and those after it. -/
abbrev preWrites : List (Ref sig .tc) :=
  [main_v0, main_c, main_v1, main_v2, main_cst, main_call0_v0, main_call0_v1, main_call0_v2, main_v3, main_v4, main_v5, main_v6, main_v7, main_v8, main_v9]
abbrev postWrites : List (Ref sig .tc) := [main_v11, main_v12]

theorem V1_ne (d : Dev nD) (r : Ref sig .tc) (h : r ∉ preWrites) : V1 m d (Proc.devRef .tc r) = m (d, Proc.devRef .tc r) :=
  StableHlo.after_of_writes_sub preOps _ (StableHlo.forall_writes_sub_of_map (W := preWrites) rfl) h
theorem V3_ne (d : Dev nD) (r : Ref sig .tc) (h : r ∉ postWrites) : V3 m d (Proc.devRef .tc r) = V2 m d (Proc.devRef .tc r) :=
  StableHlo.after_of_writes_sub postOps _ (StableHlo.forall_writes_sub_of_map (W := postWrites) rfl) h

/-- A buffer nothing writes keeps its contents. -/
theorem V4_keeps (d : Dev nD) (r : Ref sig .tc) (h₁ : r ∉ preWrites) (h₂ : r ∉ postWrites) (h₃ : r ≠ main_v10) (h₄ : r ≠ main_v13) :
    V4 m d (Proc.devRef .tc r) = m (d, Proc.devRef .tc r) :=
  (atExit_ne m d r h₄).trans ((V3_ne m d r h₂).trans ((V2_ne m d fun e => h₃ (Proc.devRef_injective _ e)).trans (V1_ne m d r h₁)))

/-- The run: the result, the arguments unchanged, every semaphore at zero. -/
theorem run_args [∀ e, Nonempty (Elt F e)] (ρ : Dev nD → PrngReg) : θ_run (Cert.KernelIdeal.defs (F := F)) (threads (F := F)) ⟨m, fun _ => 0, ρ⟩
    (fun r => (∀ c : Dev nD, r.2.mem ((c.tc : Thread nD τ).loc main_v13) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono (fun _ h => ⟨fun c =>
    ⟨(h.1 c _ (mem_uc main_v13 rfl)).trans (Function.update_self ..),
      (h.1 c _ (mem_uc main_arg0 rfl)).trans (V4_keeps m c main_arg0 (by decide) (by decide) (by decide) (by decide)),
      (h.1 c _ (mem_uc main_arg1 rfl)).trans (V4_keeps m c main_arg1 (by decide) (by decide) (by decide) (by decide)),
      (h.1 c _ (mem_uc main_arg2 rfl)).trans (V4_keeps m c main_arg2 (by decide) (by decide) (by decide) (by decide)),
      (h.1 c _ (mem_uc main_arg3 rfl)).trans (V4_keeps m c main_arg3 (by decide) (by decide) (by decide) (by decide)),
      (h.1 c _ (mem_uc main_arg4 rfl)).trans (V4_keeps m c main_arg4 (by decide) (by decide) (by decide) (by decide))⟩, h.2⟩) (run_main m ρ)

end Args

/-! ## The two frames -/

/-- The idealized program's frame. -/
theorem frame_ideal : Cert.quiescent_KernelIdeal := fun m ρ _ =>
  (θ_run Cert.KernelIdeal.defs _ _).mono (fun _ h => ⟨fun c => (h.1 c).2, h.2⟩) (run_args (F := Ideal) m ρ)

/-- Over bit patterns a named constant is its pattern. -/
instance namedBits : Named Bits := ⟨fun _ _ {φ} b => Scalar.ofBits φ b⟩

set_option maxRecDepth 65536

/-- The kernels' bodies are the same over bit patterns, -/
theorem bodies_eq : Cert.Kernel.defs₀ (F := Bits) = Cert.KernelIdeal.defs₀ (F := Bits) := by
  funext p l a
  match p, l, a with
  | .tc, 0, a => rfl
  | .tc, 1, (t, s) => rfl
  | .scScalar c, 0, a => rfl
  | .scScalar c, 1, a => rfl
  | .scVector c s, 0, a => rfl
  | .scVector c s, 1, a => rfl
/-- the table of bodies too, -/
theorem defs_eq : Cert.Kernel.defs (F := Bits) = Cert.KernelIdeal.defs (F := Bits) := by
  unfold Cert.Kernel.defs Cert.KernelIdeal.defs
  rw [bodies_eq]; rfl
/-- and the threads. -/
theorem threads_eq : Cert.Kernel.threads (F := Bits) = Cert.KernelIdeal.threads (F := Bits) := rfl

/-- The printed program's frame. -/
theorem frame_printed : Cert.quiescent_Kernel := fun m ρ _ => by
  have h := run_args (F := Bits) m ρ
  rw [← defs_eq, ← threads_eq] at h
  exact (θ_run Cert.Kernel.defs _ _).mono (fun _ h => ⟨fun c => (h.1 c).2, h.2⟩) h

/-! ## The named constant -/

/-- `inv_cell` is the reciprocal of the cell's side. -/
theorem constants : Cert.preserves_Kernel_KernelIdeal := IdealRules.named_const.statement _ _ _ _ _ rfl

end Cert.Proof.Run

end
-- ==== Proof.RefFrame.lean ====
/-
  The reference runs and leaves its arguments; it has no semaphore.
-/
module

public import proofs.«01_k».proof.Defs
public import proofs.«01_k».proof.Proof.Gen.ReferenceIdeal.Run
public import Idealize.ShloMosaic.Lib.Quiescent

@[expose] public section

noncomputable section

namespace Cert.Proof.Ref

open Cert.ReferenceIdeal Cert.ReferenceIdeal.Gen
open Idealize.ShloMosaic Idealize.SL.Sem

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.RefStages.lean ====
/-
  The reference, stage by stage: its result as a composition of named arrays.
-/
module

public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic

variable {F : FTy → Type} [FloatOps F]

/-- The positions, a track with a coordinate that is no number moved to -500. -/
def placed (A : Vec F S32x512x2 .f32) : Vec F S32x512x2 .f32 :=
  select (broadcastInDim S32x512x2 ![0, 1, 2] bcast_S32x512x1_S32x512x2_0_1_2
      (broadcastInDim S32x512x1 ![0, 1] bcast_S32x512_S32x512x1_0_1
        (Host.reduce IntOp.ori (cmpf .une A A) (constantI S_ 1 0#1) reducesTo_S32x512x2_S32x512_d2 h_S_)))
    (broadcastInDim S32x512x2 ![] bcast_S_S32x512x2 (id (constant S_ .f32 0xC3FA0000#32))) A

/-- The position of track `j` less that of track `i`, at `(i, j)`. -/
def apart (P : Vec F S32x512x2 .f32) : Vec F S32x512x512x2 .f32 :=
  subf (broadcastInDim S32x512x512x2 ![0, 1, 2, 3] bcast_S32x1x512x2_S32x512x512x2_0_1_2_3
      (broadcastInDim S32x1x512x2 ![0, 2, 3] bcast_S32x512x2_S32x1x512x2_0_2_3 P))
    (broadcastInDim S32x512x512x2 ![0, 1, 2, 3] bcast_S32x512x1x2_S32x512x512x2_0_1_2_3
      (broadcastInDim S32x512x1x2 ![0, 1, 3] bcast_S32x512x2_S32x512x1x2_0_1_3 P))

/-- Each track's own number, as a column. -/
def own : IVec S512x1 32 := broadcastInDim S512x1 ![0] bcast_S512_S512x1_0 (iotaInDim S512 32 0)

/-- The number of neighbour `k` of track `i`: `k`, or one more from the track's own number on. -/
def nbr : IVec S512x511 32 :=
  addi (broadcastInDim S512x511 ![0, 1] bcast_S1x511_S512x511_0_1 (broadcastInDim S1x511 ![1] bcast_S511_S1x511_1 (iotaInDim S511 32 0)))
    (extui 32 (cmpi .sge
      (broadcastInDim S512x511 ![0, 1] bcast_S1x511_S512x511_0_1 (broadcastInDim S1x511 ![1] bcast_S511_S1x511_1 (iotaInDim S511 32 0)))
      (broadcastInDim S512x511 ![0, 1] bcast_S512x1_S512x511_0_1 own)) natLt_1_32)

/-- A column of indices, those below zero counted from the end. -/
def wrapOwn (x : IVec S512x1 32) : IVec S512x1 32 :=
  select (cmpi .slt x (broadcastInDim S512x1 ![] bcast_S_S512x1 (constantI S_ 32 0#32)))
    (addi x (broadcastInDim S512x1 ![] bcast_S_S512x1 (constantI S_ 32 512#32))) x

/-- A table of indices, those below zero counted from the end. -/
def wrapNbr (x : IVec S512x511 32) : IVec S512x511 32 :=
  select (cmpi .slt x (broadcastInDim S512x511 ![] bcast_S_S512x511 (constantI S_ 32 0#32)))
    (addi x (broadcastInDim S512x511 ![] bcast_S_S512x511 (constantI S_ 32 512#32))) x

/-- The pair (track, its neighbour `k`). -/
def pairs : IVec S512x511x2 32 :=
  fn_main_v32 (F := F)
    (broadcastInDim S512x511x1 ![0, 1] bcast_S512x511_S512x511x1_0_1 (broadcastInDim S512x511 ![0, 1] bcast_S512x1_S512x511_0_1 (wrapOwn own)))
    (broadcastInDim S512x511x1 ![0, 1] bcast_S512x511_S512x511x1_0_1 (wrapNbr nbr))

/-- Neighbour `k`'s position in track `i`'s grid, in cells. -/
def inGrid (P : Vec F S32x512x2 .f32) : Vec F S32x512x511x2 .f32 :=
  addf (Host.divf (Host.gather gather_S32x512x512x2_S512x511x2_S32x512x511x2_03_12_n_n_12_2_32112 (apart P) (pairs (F := F)))
      (broadcastInDim S32x512x511x2 ![] bcast_S_S32x512x511x2 (constant S_ .f32 0x3F19999A#32)))
    (broadcastInDim S32x512x511x2 ![] bcast_S_S32x512x511x2 (constant S_ .f32 0x41000000#32))

/-- Whether it is inside the grid. -/
def inside (G : Vec F S32x512x511x2 .f32) : IVec S32x512x511 1 :=
  cmpi .eq (Host.reduce IntOp.addi (extui 32 (ori
      (cmpf .olt G (broadcastInDim S32x512x511x2 ![] bcast_S_S32x512x511x2 (constant S_ .f32 0x00000000#32)))
      (cmpf .oge G (broadcastInDim S32x512x511x2 ![] bcast_S_S32x512x511x2 (constant S_ .f32 0x41800000#32)))) natLt_1_32)
      (constantI S_ 32 0#32) reducesTo_S32x512x511x2_S32x512x511_d3 h_S_)
    (broadcastInDim S32x512x511 ![] bcast_S_S32x512x511 (constantI S_ 32 0#32))

/-- The position as whole cells, zero outside the grid. -/
def whole (G : Vec F S32x512x511x2 .f32) : IVec S32x512x511x2 32 :=
  fptosi 32 (Host.floor (select (broadcastInDim S32x512x511x2 ![0, 1, 2, 3] bcast_S32x512x511x1_S32x512x511x2_0_1_2_3
      (broadcastInDim S32x512x511x1 ![0, 1, 2] bcast_S32x512x511_S32x512x511x1_0_1_2 (inside G))) G
    (broadcastInDim S32x512x511x2 ![] bcast_S_S32x512x511x2 (id (constant S_ .f32 0x00000000#32)))))

/-- The cell's number. -/
def cell (G : Vec F S32x512x511x2 .f32) : IVec S32x512x511 32 :=
  addi (muli (shapeCast S32x512x511 (extractStridedSlice S32x512x511x1 ![0, 0, 0, 0] (whole G) slices_S32x512x511x2_S32x512x511x1_0_0_0_0) shapeCasts_S32x512x511x1_S32x512x511)
      (broadcastInDim S32x512x511 ![] bcast_S_S32x512x511 (constantI S_ 32 16#32)))
    (shapeCast S32x512x511 (extractStridedSlice S32x512x511x1 ![0, 0, 0, 1] (whole G) slices_S32x512x511x2_S32x512x511x1_0_0_0_1) shapeCasts_S32x512x511x1_S32x512x511)

/-- The batch's number; a negative one would count from the end. -/
def batchNo : IVec S32x1x1 32 :=
  select (cmpi .slt (broadcastInDim S32x1x1 ![0] bcast_S32_S32x1x1_0 (iotaInDim S32 32 0)) (broadcastInDim S32x1x1 ![] bcast_S_S32x1x1 (constantI S_ 32 0#32)))
    (addi (broadcastInDim S32x1x1 ![0] bcast_S32_S32x1x1_0 (iotaInDim S32 32 0)) (broadcastInDim S32x1x1 ![] bcast_S_S32x1x1 (constantI S_ 32 32#32)))
    (broadcastInDim S32x1x1 ![0] bcast_S32_S32x1x1_0 (iotaInDim S32 32 0))

/-- The track's number; a negative one would count from the end. -/
def trackNo : IVec S1x512x1 32 :=
  select (cmpi .slt (broadcastInDim S1x512x1 ![1] bcast_S512_S1x512x1_1 (iotaInDim S512 32 0)) (broadcastInDim S1x512x1 ![] bcast_S_S1x512x1 (constantI S_ 32 0#32)))
    (addi (broadcastInDim S1x512x1 ![1] bcast_S512_S1x512x1_1 (iotaInDim S512 32 0)) (broadcastInDim S1x512x1 ![] bcast_S_S1x512x1 (constantI S_ 32 512#32)))
    (broadcastInDim S1x512x1 ![1] bcast_S512_S1x512x1_1 (iotaInDim S512 32 0))

/-- The cell's number; a negative one would count from the end. -/
def cellNo (C : IVec S32x512x511 32) : IVec S32x512x511 32 :=
  select (cmpi .slt C (broadcastInDim S32x512x511 ![] bcast_S_S32x512x511 (constantI S_ 32 0#32)))
    (addi C (broadcastInDim S32x512x511 ![] bcast_S_S32x512x511 (constantI S_ 32 256#32))) C

/-- Where neighbour `k` of track `i` of batch `b` is marked. -/
def places (C : IVec S32x512x511 32) : IVec S32x512x511x3 32 :=
  fn_main_v84 (F := F)
    (broadcastInDim S32x512x511x1 ![0, 1, 2] bcast_S32x512x511_S32x512x511x1_0_1_2 (broadcastInDim S32x512x511 ![0, 1, 2] bcast_S32x1x1_S32x512x511_0_1_2 batchNo))
    (broadcastInDim S32x512x511x1 ![0, 1, 2] bcast_S32x512x511_S32x512x511x1_0_1_2 (broadcastInDim S32x512x511 ![0, 1, 2] bcast_S1x512x1_S32x512x511_0_1_2 trackNo))
    (broadcastInDim S32x512x511x1 ![0, 1, 2] bcast_S32x512x511_S32x512x511x1_0_1_2 (cellNo C))

/-- The mark: one inside the grid, zero outside. -/
def mark (G : Vec F S32x512x511x2 .f32) : IVec S32x512x511 32 :=
  select (inside G) (broadcastInDim S32x512x511 ![] bcast_S_S32x512x511 (constantI S_ 32 1#32)) (broadcastInDim S32x512x511 ![] bcast_S_S32x512x511 (constantI S_ 32 0#32))

/-- The table of marks, the greatest kept where several meet. -/
def marks (G : Vec F S32x512x511x2 .f32) : IVec S32x512x256 32 :=
  Host.scatter scatter_S32x512x256_S32x512x511x3_S32x512x511_n_012_012_3 IntOp.maxsi
    (broadcastInDim S32x512x256 ![] bcast_S_S32x512x256 (constantI S_ 32 0#32)) (places (F := F) (cell G)) (id (mark G))

/-- The occupancy of every track, by rows. -/
def occ (A : Vec F S32x512x2 .f32) : Vec F S16384x256 .f32 :=
  shapeCast S16384x256 (sitofp .f32 (marks (inGrid (placed A)))) shapeCasts_S32x512x256_S16384x256

/-- The linear layer over it. -/
def layer (O : Vec F S16384x256 .f32) (W : Vec F S128x256 .f32) (b : Vec F S128 .f32) : Vec F S16384x128 .f32 :=
  maximumf (addf (Host.dotGeneral dot_S16384x256_S256x128_S16384x128_1_0_0_1_n_n none O (transpose S256x128 [1, 0] W transposes_S128x256_S256x128_1_0))
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

set_option maxRecDepth 65536 in
set_option maxHeartbeats 4000000 in
/-- The reference's result is the layer over the occupancy. -/
theorem res_eq (m : (ℓ : Loc nD τ sig) → Buf (Elt F) ℓ) (c : Dev nD) :
    res_main_v95 m c = layer (occ (m ((c.tc : Thread nD τ).loc main_arg2))) (m ((c.tc : Thread nD τ).loc main_arg3)) (m ((c.tc : Thread nD τ).loc main_arg4)) := by
  delta res_main_v95
  rfl

end Cert.Proof.Ref

end
-- ==== Proof.Arrays.lean ====
/-
  The arrays that the host hands the two kernels, read back to the arguments.
-/
module

public import proofs.«01_k».proof.Proof.Frames
public import proofs.«01_k».proof.Proof.RefStages
public import Idealize.ShloMosaic.Lib.StableHlo.RunRead
public import Idealize.ShloMosaic.Lib.Pointwise

@[expose] public section

noncomputable section

namespace Cert.Proof.Run

open Cert.KernelIdeal Cert.KernelIdeal.Gen
open Idealize.ShloMosaic Idealize.ShloMosaic.TcCoe

variable {F : FTy → Type} [FloatOps F] [Named F] (m : (ℓ : Loc nD τ sig) → Buf (Elt F) ℓ)

/-- The positions argument; the weights; the bias. -/
abbrev argP (d : Dev nD) : Vec F S32x512x2 .f32 := m ((d.tc : Thread nD τ).loc main_arg2)
abbrev argW (d : Dev nD) : Vec F S128x256 .f32 := m ((d.tc : Thread nD τ).loc main_arg3)
abbrev argB (d : Dev nD) : Vec F S128 .f32 := m ((d.tc : Thread nD τ).loc main_arg4)

set_option maxRecDepth 65536 in
theorem gx_eq (d : Dev nD) : gx m d = shapeCast S16384 (shapeCast S32x512
    (extractStridedSlice S32x512x1 ![0, 0, 0] (Ref.placed (argP m d)) slices_S32x512x2_S32x512x1_0_0_0) shapeCasts_S32x512x1_S32x512) shapeCasts_S32x512_S16384 := by
  show StableHlo.after preOps (StableHlo.launchContents m d) (Proc.devRef .tc main_v6) = _
  after_reads_simp
  rfl

set_option maxRecDepth 65536 in
theorem gy_eq (d : Dev nD) : gy m d = shapeCast S16384 (shapeCast S32x512
    (extractStridedSlice S32x512x1 ![0, 0, 1] (Ref.placed (argP m d)) slices_S32x512x2_S32x512x1_0_0_1) shapeCasts_S32x512x1_S32x512) shapeCasts_S32x512_S16384 := by
  show StableHlo.after preOps (StableHlo.launchContents m d) (Proc.devRef .tc main_v9) = _
  after_reads_simp
  rfl

/-- Word `512 b + t` of the flat first coordinates is track `t` of batch `b`. -/
theorem gx_at (d : Dev nD) (b : Fin 32) (t : Fin 512) : gx m d (ix1 ⟨512 * b.val + t.val, by omega⟩) = Ref.placed (argP m d) (ix3 b t 0) := by
  rw [gx_eq]
  generalize Ref.placed (argP m d) = P
  pointwise

theorem gy_at (d : Dev nD) (b : Fin 32) (t : Fin 512) : gy m d (ix1 ⟨512 * b.val + t.val, by omega⟩) = Ref.placed (argP m d) (ix3 b t 1) := by
  rw [gy_eq]
  generalize Ref.placed (argP m d) = P
  pointwise

/-- The linear layer's three operands. -/
theorem V3_occ (d : Dev nD) : V3 m d (Proc.devRef .tc main_v10) = occV (gx m d) (gy m d) :=
  (V3_ne m d main_v10 (by decide)).trans (Function.update_self ..)

theorem V3_weights (d : Dev nD) : V3 m d (Proc.devRef .tc main_v11) = transpose S256x128 [1, 0] (argW m d) transposes_S128x256_S256x128_1_0 := by
  unfold V3
  after_reads_simp
  rw [V2_ne m d (fun e => absurd (Proc.devRef_injective _ e) (by decide)), V1_ne m d main_arg3 (by decide)]

theorem V3_bias (d : Dev nD) : V3 m d (Proc.devRef .tc main_v12) = shapeCast S1x128 (argB m d) shapeCasts_S128_S1x128 := by
  unfold V3
  after_reads_simp
  rw [V2_ne m d (fun e => absurd (Proc.devRef_injective _ e) (by decide)), V1_ne m d main_arg4 (by decide)]
  rfl

end Cert.Proof.Run

end
-- ==== Proof.Consts.lean ====
/-
  The float constants of both programs, as the numbers they stand for.
-/
module

public import Idealize.ShloMosaic.PureOps.Ideal

@[expose] public section

noncomputable section

namespace Cert.Proof.Consts

open Idealize.ShloMosaic

theorem bits_zero : Ideal.ofBits .f32 0x00000000#32 = 0 := by
  simp [Ideal.ofBits, Ideal.ieee, -EReal.coe_mul]

theorem bits_one : Ideal.ofBits .f32 0x3F800000#32 = ((1 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_sixteen : Ideal.ofBits .f32 0x41800000#32 = ((16 : ℝ) : EReal) := by
  simp [Ideal.ofBits, Ideal.ieee, -EReal.coe_mul]; norm_num

/-- The side of a cell, 0.6 as a float. -/
theorem bits_side : Ideal.ofBits .f32 0x3F19999A#32 = ((5033165 / 8388608 : ℝ) : EReal) := by
  simp [Ideal.ofBits, Ideal.ieee, -EReal.coe_mul]; norm_num

end Cert.Proof.Consts

end
-- ==== Proof.Linear.lean ====
/-
  The linear layer: the kernel's blocks of 512 rows together are the reference's layer over all rows.
-/
module

public import proofs.«01_k».proof.Proof.Region
public import proofs.«01_k».proof.Proof.RefStages
public import proofs.«01_k».proof.Proof.Consts
public import Idealize.ShloMosaic.Lib.Pointwise

@[expose] public section

noncomputable section

namespace Cert.Proof.Linear

open Cert.KernelIdeal Cert.KernelIdeal.Gen
open Idealize.ShloMosaic

variable (O : Vec Ideal S16384x256 .f32) (W : Vec Ideal S128x256 .f32) (B : Vec Ideal S128 .f32)

/-- One word of the layer: a row of the occupancy times a row of the weights, plus the bias, no less than zero. -/
def word (r : Fin 16384) (c : Fin 128) : EReal :=
  max ((∑ k : Fin 256, (O (ix2 r k) : EReal) * (W (ix2 c k) : EReal)) + (B (ix1 c) : EReal)) 0

theorem layer_at (r : Fin 16384) (c : Fin 128) : Ref.layer O W B (ix2 r c) = word O W B r c := by
  unfold Ref.layer word
  pointwise

theorem linV_at (r : Fin 16384) (c : Fin 128) : Run.linV O (transpose S256x128 [1, 0] W transposes_S128x256_S256x128_1_0)
    (shapeCast S1x128 B shapeCasts_S128_S1x128) (ix2 r c) = word O W B r c := by
  unfold Run.linV k1_pay1 word
  pointwise
  have e : ∀ k : Fin 256, Run.rowsAt O ⟨r.val / 512, by omega⟩ (ix2 ⟨r.val % 512, Nat.mod_lt _ (by decide)⟩ k) = O (ix2 r k) := by
    intro k
    have hr : (⟨512 * (r.val / 512) + r.val % 512, by omega⟩ : Fin 16384) = r := Fin.ext (Nat.div_add_mod _ _)
    unfold Run.rowsAt
    exact congrArg (fun r => O (ix2 r k)) hr
  exact congrArg (fun s : EReal => max (s + (B (ix1 c) : EReal)) 0) (Finset.sum_congr rfl fun k _ => by rw [e k])

end Cert.Proof.Linear

end
-- ==== Proof.Grid.lean ====
/-
  One coordinate of one neighbour: the kernel's place in the grid is the reference's; which places are inside, and the cell.
-/
module

public import proofs.«01_k».proof.Proof.Consts
public import Idealize.ShloMosaic.Lib.WordCmp

@[expose] public section

noncomputable section

namespace Cert.Proof.Grid

open Idealize.ShloMosaic

/-- Cells per unit of length: the inverse of 0.6 as a float. -/
abbrev perUnit : EReal := ((8388608 / 5033165 : ℝ) : EReal)
/-- The side of a cell. -/
abbrev side : EReal := ((5033165 / 8388608 : ℝ) : EReal)

theorem div_side (x : EReal) : Ideal.div x side = x * perUnit := by
  unfold Ideal.div
  rw [if_neg (by unfold side; rw [← EReal.coe_zero, EReal.coe_eq_coe_iff]; norm_num)]
  congr 1
  unfold side
  rw [← EReal.coe_inv]
  norm_num

/-- Scaling each position and subtracting, eight cells moved with the track's own, is scaling the difference and adding eight. -/
theorem place_eq (a c : EReal) : a * perUnit - (c * perUnit - ((8 : ℝ) : EReal)) = Ideal.div (a - c) side + ((8 : ℝ) : EReal) := by
  rw [div_side]
  have hp : (0 : ℝ) < 8388608 / 5033165 := by norm_num
  induction a with
  | bot =>
    induction c with
    | bot => simp [EReal.bot_mul_coe_of_pos hp]
    | top => simp [EReal.bot_mul_coe_of_pos hp]
    | coe c => simp [EReal.bot_mul_coe_of_pos hp]
  | top =>
    induction c with
    | bot => simp [EReal.bot_mul_coe_of_pos hp, EReal.top_mul_coe_of_pos hp]
    | top => simp [EReal.bot_mul_coe_of_pos hp, EReal.top_mul_coe_of_pos hp]
    | coe c =>
      rw [EReal.top_mul_coe_of_pos hp, EReal.top_sub_coe, EReal.top_mul_coe_of_pos hp, ← EReal.coe_mul, ← EReal.coe_sub, EReal.top_sub_coe]
      rfl
  | coe a =>
    induction c with
    | bot =>
      have h1 : ((a : ℝ) : EReal) * perUnit = ((a * (8388608 / 5033165) : ℝ) : EReal) := (EReal.coe_mul ..).symm
      rw [h1, EReal.bot_mul_coe_of_pos hp, EReal.bot_sub, EReal.coe_sub_bot, EReal.coe_sub_bot, EReal.top_mul_coe_of_pos hp, EReal.top_add_coe]
    | top => simp [EReal.bot_mul_coe_of_pos hp, EReal.top_mul_coe_of_pos hp]
    | coe c =>
      norm_cast
      ring_nf

/-- A coordinate lies in the grid: at least 0 and less than 16. -/
def Within (g : EReal) : Prop := 0 ≤ g ∧ g < ((16 : ℝ) : EReal)

theorem fptosi_within (g : EReal) (h : Within g) : ∃ n < 16, Ideal.fptosi 32 g = BitVec.ofNat 32 n ∧ Ideal.fptosi 32 (Ideal.liftRound Int.floor g) = BitVec.ofNat 32 n := by
  obtain ⟨h0, h1⟩ := h
  induction g with
  | bot => simp at h0
  | top => simp at h1
  | coe r =>
    have h0 : 0 ≤ r := by exact_mod_cast h0
    have h1 : r < 16 := by exact_mod_cast h1
    have f0 : 0 ≤ ⌊r⌋ := Int.floor_nonneg.mpr h0
    have f1 : ⌊r⌋ < 16 := by rw [Int.floor_lt]; exact_mod_cast h1
    have e : ∀ s : ℝ, 0 ≤ s → ⌊s⌋ = ⌊r⌋ → Ideal.fptosi 32 (s : EReal) = BitVec.ofNat 32 ⌊r⌋.toNat := by
      intro s s0 hs
      unfold Ideal.fptosi
      rw [Ideal.toIntClamped_coe, if_pos s0, hs, max_eq_right, min_eq_right]
      · conv_lhs => rw [← Int.toNat_of_nonneg f0]
        exact BitVec.ofInt_natCast ..
      · norm_num; omega
      · rw [min_eq_right] <;> norm_num <;> omega
    refine ⟨⌊r⌋.toNat, by omega, e r h0 rfl, ?_⟩
    rw [Ideal.liftRound_coe]
    exact e _ (by exact_mod_cast f0) (by simp)

theorem fptosi_past (g : EReal) (h0 : 0 ≤ g) (h : ¬ g < ((16 : ℝ) : EReal)) : ∃ n, 16 ≤ n ∧ n < 2 ^ 31 ∧ Ideal.fptosi 32 g = BitVec.ofNat 32 n := by
  induction g with
  | bot => simp at h0
  | top =>
    refine ⟨2 ^ 31 - 1, by norm_num, by norm_num, ?_⟩
    unfold Ideal.fptosi
    rw [Ideal.toIntClamped_top]
    rfl
  | coe r =>
    have h0 : 0 ≤ r := by exact_mod_cast h0
    have h1 : 16 ≤ r := by
      by_contra hr
      exact h (by exact_mod_cast not_le.mp hr)
    have f1 : 16 ≤ ⌊r⌋ := by rw [Int.le_floor]; exact_mod_cast h1
    unfold Ideal.fptosi
    rw [Ideal.toIntClamped_coe, if_pos h0]
    obtain ⟨k, hk, k0, k1⟩ : ∃ k : ℕ, max (-((2 ^ (32 - 1) : ℕ) : ℤ)) (min (((2 ^ (32 - 1) : ℕ) : ℤ) - 1) ⌊r⌋) = (k : ℤ) ∧ 16 ≤ k ∧ k < 2 ^ 31 := by
      refine ⟨(min (((2 ^ (32 - 1) : ℕ) : ℤ) - 1) ⌊r⌋).toNat, ?_, ?_, ?_⟩ <;> norm_num <;> omega
    refine ⟨k, k0, k1, ?_⟩
    rw [hk]
    exact BitVec.ofInt_natCast ..

end Cert.Proof.Grid

end
-- ==== Proof.RefPairs.lean ====
/-
  The reference's neighbours: neighbour `k` of a track is track `k`, or `k + 1` from the track's own number on; and its position in
  the track's grid.
-/
module

public import proofs.«01_k».proof.Proof.RefStages
public import Idealize.ShloMosaic.Lib.Pointwise
public import Idealize.ShloMosaic.Lib.Routing.OpsPair

@[expose] public section

noncomputable section

namespace Cert.Proof.Ref

open Cert.ReferenceIdeal Cert.ReferenceIdeal.Gen Cert.ReferenceIdeal.Value
open Idealize.ShloMosaic

variable {F : FTy → Type} [FloatOps F]

/-- Neighbour `k` of track `t`. -/
def nb (t : Fin 512) (k : Fin 511) : Fin 512 := ⟨k.val + if t.val ≤ k.val then 1 else 0, by have := k.isLt; split <;> omega⟩

theorem nb_ne (t : Fin 512) (k : Fin 511) : nb t k ≠ t := by
  intro h
  have := congrArg Fin.val h
  simp only [nb] at this
  split at this <;> omega

/-- Every other track is a neighbour. -/
theorem nb_surj (t j : Fin 512) (h : j ≠ t) : ∃ k, nb t k = j := by
  have hv : j.val ≠ t.val := fun e => h (Fin.ext e)
  have := j.isLt; have := t.isLt
  by_cases hl : j.val < t.val
  · exact ⟨⟨j.val, by omega⟩, Fin.ext (by simp only [nb]; rw [if_neg (by omega)]; omega)⟩
  · exact ⟨⟨j.val - 1, by omega⟩, Fin.ext (by simp only [nb]; rw [if_pos (by omega)]; omega)⟩

theorem own_at (t : Fin 512) (z : Fin 1) : own (ix2 t z) = BitVec.ofNat 32 t.val := by
  pointwise [own]

theorem nbr_at (t : Fin 512) (k : Fin 511) : nbr (ix2 t k) = BitVec.ofNat 32 (nb t k).val := by
  pointwise [nbr, own]
  have hk := k.isLt
  have ht := t.isLt
  have hc : IntOp.cmpi .sge (BitVec.ofNat 32 k.val) (BitVec.ofNat 32 t.val) = BitVec.ofBool (decide (t.val ≤ k.val)) := by
    show BitVec.ofBool ((BitVec.ofNat 32 t.val).sle (BitVec.ofNat 32 k.val)) = _
    rw [BitVec.sle_eq_decide, WordCmp.toInt_ofNat_of_lt (by omega), WordCmp.toInt_ofNat_of_lt (by omega)]
    simp
  rw [hc]
  show BitVec.ofNat 32 k.val + _ = _
  apply BitVec.eq_of_toNat_eq
  by_cases h : t.val ≤ k.val <;> simp [nb, h] <;> omega

theorem apart_at (P : Vec F S32x512x2 .f32) (b : Fin 32) (i j : Fin 512) (c : Fin 2) :
    apart P (ix4 b i j c) = FloatOps.subf (P (ix3 b j c)) (P (ix3 b i c)) := by
  pointwise [apart]

theorem wrapped (n : ℕ) (h : n < 512) (a : BitVec 32) :
    Scalar.select (IntOp.cmpi CmpIPredicate.slt (BitVec.ofNat 32 n) 0#32) a (BitVec.ofNat 32 n) = BitVec.ofNat 32 n :=
  Routing.wrap_of_lt _ _ (by rw [BitVec.toNat_ofNat]; omega)

theorem pairs_at (t : Fin 512) (k : Fin 511) : pairs (F := F) (ix3 t k 0) = BitVec.ofNat 32 t.val ∧ pairs (F := F) (ix3 t k 1) = BitVec.ofNat 32 (nb t k).val := by
  constructor <;> unfold pairs fn_main_v32 <;> pointwise [wrapOwn, wrapNbr, own_at, nbr_at]
  · exact wrapped _ t.isLt _
  · exact wrapped _ (nb t k).isLt _

theorem toInt_small (n : ℕ) (h : n < 512) : min (BitVec.ofNat 32 n).toInt.toNat 511 = n := by
  rw [WordCmp.toInt_ofNat_of_lt (by omega)]; omega

/-- Where the gather starts on axis 1 + `z`: the start index's word `z`, kept inside the array. -/
theorem start_at (idx : IVec S512x511x2 32) (b : Fin 32) (t : Fin 512) (k : Fin 511) (c : Fin 2) (z : Fin 2) (a : Fin 4) (ha : a.val = z.val + 1) :
    gather_S32x512x512x2_S512x511x2_S32x512x511x2_03_12_n_n_12_2_32112.start (ix4 b t k c) idx a = min (idx (ix3 t k z)).toInt.toNat 511 := by
  have e0 : ∀ z, gather_S32x512x512x2_S512x511x2_S32x512x511x2_03_12_n_n_12_2_32112.siIdx (ix4 b t k c) z = ix3 t k z := by
    intro z
    funext a
    match a with
    | ⟨0, _⟩ => rfl
    | ⟨1, _⟩ => rfl
    | ⟨2, _⟩ => rfl
  unfold GatherDims.start
  match a, z with
  | 1, 0 => rw [dif_pos (by decide), e0]; rfl
  | 2, 1 => rw [dif_pos (by decide), e0]; rfl

/-- The gather reads entry `(track, neighbour)`. -/
theorem gather_at (x : Vec F S32x512x512x2 .f32) (b : Fin 32) (t : Fin 512) (k : Fin 511) (c : Fin 2) :
    Host.gather gather_S32x512x512x2_S512x511x2_S32x512x511x2_03_12_n_n_12_2_32112 x (pairs (F := F)) (ix4 b t k c) = x (ix4 b t (nb t k) c) := by
  have hp := pairs_at (F := F) t k
  generalize pairs (F := F) = idx at hp ⊢
  show x _ = x _
  refine congrArg x (funext fun a => Fin.ext ?_)
  show GatherDims.start _ _ _ a + GatherDims.batchCoord _ _ a + GatherDims.offCoord _ _ a = _
  match a with
  | ⟨0, _⟩ => exact (Nat.zero_add _)
  | ⟨1, _⟩ =>
    rw [start_at idx b t k c 0 ⟨1, by decide⟩ rfl, hp.1, toInt_small _ t.isLt]
    rfl
  | ⟨2, _⟩ =>
    rw [start_at idx b t k c 1 ⟨2, by decide⟩ rfl, hp.2, toInt_small _ (nb t k).isLt]
    rfl
  | ⟨3, _⟩ => exact (Nat.zero_add _)

/-- Neighbour `k`'s place in the grid of track `t`: its distance over 0.6, plus 8. -/
theorem inGrid_at (P : Vec F S32x512x2 .f32) (b : Fin 32) (t : Fin 512) (k : Fin 511) (c : Fin 2) :
    inGrid P (ix4 b t k c) = FloatOps.addf (FloatOps.hostDivf (FloatOps.subf (P (ix3 b (nb t k) c)) (P (ix3 b t c)))
      (Scalar.ofBits .f32 0x3F19999A#32)) (Scalar.ofBits .f32 0x41000000#32) := by
  unfold inGrid
  pointwise
  rw [gather_at, apart_at]

end Cert.Proof.Ref

end
-- ==== Proof.RefMarks.lean ====
/-
  The reference's marks: one at a cell of a track's grid if a neighbour inside the grid falls there, zero elsewhere.
-/
module

public import proofs.«01_k».proof.Proof.RefPairs

@[expose] public section

noncomputable section

namespace Cert.Proof.Ref

open Cert.ReferenceIdeal Cert.ReferenceIdeal.Gen Cert.ReferenceIdeal.Value
open Idealize.ShloMosaic

variable {F : FTy → Type} [FloatOps F]

/-- Coordinate `g` lies outside the grid. -/
def outside (g : F .f32) : BitVec 1 :=
  IntOp.ori (FloatOps.cmpf .olt g (Scalar.ofBits .f32 0x00000000#32)) (FloatOps.cmpf .oge g (Scalar.ofBits .f32 0x41800000#32))

theorem outside_cases (g : F .f32) : outside g = 0#1 ∨ outside g = 1#1 := by
  generalize outside g = x
  revert x; decide

theorem inside_at (G : Vec F S32x512x511x2 .f32) (b : Fin 32) (t : Fin 512) (k : Fin 511) :
    inside G (ix3 b t k) = 1#1 ↔ outside (G (ix4 b t k 0)) = 0#1 ∧ outside (G (ix4 b t k 1)) = 0#1 := by
  unfold inside
  pointwise
  have hu : (Finset.univ : Finset (Fin 2)) = {0, 1} := by decide
  rw [hu, Finset.fold_insert (by decide), Finset.fold_singleton]
  show IntOp.cmpi CmpIPredicate.eq (IntOp.addi (BitVec.setWidth 32 (outside (G (ix4 b t k 0)))) (IntOp.addi (BitVec.setWidth 32 (outside (G (ix4 b t k 1)))) 0#32)) 0#32 = 1#1 ↔ _
  generalize outside (G (ix4 b t k 0)) = x
  generalize outside (G (ix4 b t k 1)) = y
  revert x y; decide

theorem whole_at (G : Vec F S32x512x511x2 .f32) (b : Fin 32) (t : Fin 512) (k : Fin 511) (c : Fin 2) (h : inside G (ix3 b t k) = 1#1) :
    whole G (ix4 b t k c) = FloatOps.fptosi 32 (FloatOps.hostUnary .floor (G (ix4 b t k c))) := by
  unfold whole
  pointwise
  rw [h]
  rfl

theorem cell_at (G : Vec F S32x512x511x2 .f32) (b : Fin 32) (t : Fin 512) (k : Fin 511) (h : inside G (ix3 b t k) = 1#1) :
    cell G (ix3 b t k) = IntOp.addi (IntOp.muli (FloatOps.fptosi 32 (FloatOps.hostUnary .floor (G (ix4 b t k 0)))) 16#32)
      (FloatOps.fptosi 32 (FloatOps.hostUnary .floor (G (ix4 b t k 1)))) := by
  unfold cell
  pointwise
  rw [whole_at G b t k 0 h, whole_at G b t k 1 h]

theorem places_batch (C : IVec S32x512x511 32) (b : Fin 32) (t : Fin 512) (k : Fin 511) :
    places (F := F) C (ix4 b t k 0) = BitVec.ofNat 32 b.val := by
  unfold places fn_main_v84 batchNo
  pointwise
  exact wrapped _ (by have := b.isLt; omega) _

theorem places_track (C : IVec S32x512x511 32) (b : Fin 32) (t : Fin 512) (k : Fin 511) :
    places (F := F) C (ix4 b t k 1) = BitVec.ofNat 32 t.val := by
  unfold places fn_main_v84 trackNo
  pointwise
  exact wrapped _ t.isLt _

theorem places_cell (C : IVec S32x512x511 32) (b : Fin 32) (t : Fin 512) (k : Fin 511) (h : (C (ix3 b t k)).toNat < 256) :
    places (F := F) C (ix4 b t k 2) = C (ix3 b t k) := by
  unfold places fn_main_v84 cellNo
  pointwise
  exact Routing.wrap_of_lt _ _ (by omega)

theorem mark_at (G : Vec F S32x512x511x2 .f32) (b : Fin 32) (t : Fin 512) (k : Fin 511) :
    mark G (ix3 b t k) = Scalar.select (inside G (ix3 b t k)) 1#32 0#32 := by
  unfold mark
  pointwise

/-! ## The scatter -/

/-- A fold that keeps the greatest of zeros and ones: one if it begins at one or meets one. -/
theorem fold_greatest {κ : Type} (hits : κ → Prop) [DecidablePred hits] (v : κ → BitVec 32) (hv : ∀ n, v n = 0#32 ∨ v n = 1#32) :
    ∀ (ks : List κ) (a : BitVec 32), (a = 0#32 ∨ a = 1#32) →
      ((a = 1#32 ∨ ∃ n ∈ ks, hits n ∧ v n = 1#32) → ks.foldl (fun a n => if hits n then IntOp.maxsi a (v n) else a) a = 1#32)
      ∧ ((¬ (a = 1#32 ∨ ∃ n ∈ ks, hits n ∧ v n = 1#32)) → ks.foldl (fun a n => if hits n then IntOp.maxsi a (v n) else a) a = 0#32) := by
  intro ks
  induction ks with
  | nil => intro a ha; simp; rcases ha with rfl | rfl <;> decide
  | cons k ks ih =>
    intro a ha
    rw [List.foldl_cons]
    simp only [List.mem_cons, exists_eq_or_imp]
    by_cases hk : hits k
    · rw [if_pos hk]
      have h1 : IntOp.maxsi a (v k) = 0#32 ∨ IntOp.maxsi a (v k) = 1#32 := by
        rcases ha with rfl | rfl <;> rcases hv k with h | h <;> rw [h] <;> decide
      have h2 : (IntOp.maxsi a (v k) = 1#32) ↔ a = 1#32 ∨ v k = 1#32 := by
        rcases ha with rfl | rfl <;> rcases hv k with h | h <;> rw [h] <;> decide
      have := ih _ h1
      rw [h2] at this
      simpa only [hk, true_and, or_assoc] using this
    · rw [if_neg hk]
      simpa only [hk, false_and, false_or] using ih a ha

/-- Where update `(b, t, k)` lands. -/
theorem lands (idx : IVec S32x512x511x3 32) (b : Fin 32) (t : Fin 512) (k : Fin 511) (b' : Fin 32) (t' : Fin 512) (q : Fin 256) :
    scatter_S32x512x256_S32x512x511x3_S32x512x511_n_012_012_3.resultIdx? (ix3 b t k) idx = some (ix3 b' t' q)
      ↔ (idx (ix4 b t k 0)).toInt = b'.val ∧ (idx (ix4 b t k 1)).toInt = t'.val ∧ (idx (ix4 b t k 2)).toInt = q.val := by
  have e0 : ∀ z, scatter_S32x512x256_S32x512x511x3_S32x512x511_n_012_012_3.siIdx (ix3 b t k) z = ix4 b t k z := by
    intro z
    funext a
    match a with
    | ⟨0, _⟩ => rfl
    | ⟨1, _⟩ => rfl
    | ⟨2, _⟩ => rfl
    | ⟨3, _⟩ => rfl
  have hs : ∀ a : Fin 3, scatter_S32x512x256_S32x512x511x3_S32x512x511_n_012_012_3.start (ix3 b t k) idx a = (idx (ix4 b t k a)).toInt := by
    intro a
    unfold ScatterDims.start
    match a with
    | 0 => rw [dif_pos (by decide), e0]; rfl
    | 1 => rw [dif_pos (by decide), e0]; rfl
    | 2 => rw [dif_pos (by decide), e0]; rfl
  have hw : ∀ a : Fin 3, scatter_S32x512x256_S32x512x511x3_S32x512x511_n_012_012_3.window (ix3 b t k) a = 0 := by
    intro a
    match a with
    | 0 => rfl
    | 1 => rfl
    | 2 => rfl
  rw [Routing.resultIdx?_eq_some]
  constructor
  · intro h
    have h0 := h 0
    have h1 := h 1
    have h2 := h 2
    rw [hs, hw, Nat.cast_zero, add_zero] at h0 h1 h2
    exact ⟨h0, h1, h2⟩
  · rintro ⟨h0, h1, h2⟩ a
    rw [hs, hw, Nat.cast_zero, add_zero]
    match a with
    | ⟨0, _⟩ => exact h0
    | ⟨1, _⟩ => exact h1
    | ⟨2, _⟩ => exact h2

theorem toInt_ofNat_inj (n n' : ℕ) (h : n < 512) (e : (BitVec.ofNat 32 n).toInt = (n' : Int)) : n = n' := by
  rw [WordCmp.toInt_ofNat_of_lt (by omega)] at e; omega

/-- Cell `q` of track `t`'s grid is marked exactly when a neighbour inside the grid falls there. -/
theorem marks_at (G : Vec F S32x512x511x2 .f32) (b : Fin 32) (t : Fin 512) (q : Fin 256)
    (hc : ∀ b t k, inside G (ix3 b t k) = 1#1 → (cell G (ix3 b t k)).toNat < 256) :
    ((∃ k, inside G (ix3 b t k) = 1#1 ∧ (cell G (ix3 b t k)).toNat = q.val) → marks G (ix3 b t q) = 1#32)
      ∧ ((¬ ∃ k, inside G (ix3 b t k) = 1#1 ∧ (cell G (ix3 b t k)).toNat = q.val) → marks G (ix3 b t q) = 0#32) := by
  have hm : ∀ i : S32x512x511.Idx, mark G i = 0#32 ∨ mark G i = 1#32 := by
    intro i
    unfold mark
    show Scalar.select (inside G i) 1#32 0#32 = _ ∨ Scalar.select (inside G i) 1#32 0#32 = _
    generalize inside G i = x
    revert x; decide
  have hm1 : ∀ i : S32x512x511.Idx, mark G i = 1#32 ↔ inside G i = 1#1 := by
    intro i
    unfold mark
    show Scalar.select (inside G i) 1#32 0#32 = _ ↔ _
    generalize inside G i = x
    revert x; decide
  have hf := fold_greatest (fun n => scatter_S32x512x256_S32x512x511x3_S32x512x511_n_012_012_3.resultIdx? (S32x512x511.rowMajor.symm n) (places (F := F) (cell G)) = some (ix3 b t q))
    (fun n => mark G (S32x512x511.rowMajor.symm n)) (fun n => hm _) (List.finRange S32x512x511.numel) 0#32 (Or.inl rfl)
  have hs : marks G (ix3 b t q) = _ := Routing.scatter_at scatter_S32x512x256_S32x512x511x3_S32x512x511_n_012_012_3 IntOp.maxsi
    (broadcastInDim S32x512x256 ![] bcast_S_S32x512x256 (constantI S_ 32 0#32)) (places (F := F) (cell G)) (id (mark G)) (ix3 b t q)
  have hiff : ((0#32 : BitVec 32) = 1#32 ∨ ∃ n ∈ List.finRange S32x512x511.numel,
        scatter_S32x512x256_S32x512x511x3_S32x512x511_n_012_012_3.resultIdx? (S32x512x511.rowMajor.symm n) (places (F := F) (cell G)) = some (ix3 b t q)
          ∧ mark G (S32x512x511.rowMajor.symm n) = 1#32)
      ↔ ∃ k, inside G (ix3 b t k) = 1#1 ∧ (cell G (ix3 b t k)).toNat = q.val := by
    constructor
    · rintro (h | ⟨n, -, h1, h2⟩)
      · exact absurd h (by decide)
      · generalize S32x512x511.rowMajor.symm n = i at h1 h2
        obtain ⟨b', t', k, rfl⟩ : ∃ (b' : Fin 32) (t' : Fin 512) (k : Fin 511), i = ix3 b' t' k := ⟨i 0, i 1, i 2, eq_ix3 i⟩
        rw [hm1] at h2
        rw [lands, places_batch, places_track, places_cell _ _ _ _ (hc _ _ _ h2)] at h1
        obtain ⟨e0, e1, e2⟩ := h1
        have hb : b' = b := Fin.ext (toInt_ofNat_inj _ _ (by have := b'.isLt; omega) e0)
        have ht : t' = t := Fin.ext (toInt_ofNat_inj _ _ t'.isLt e1)
        subst hb ht
        have := hc _ _ _ h2
        rw [WordCmp.toInt_eq_toNat_of_lt_half (by omega)] at e2
        exact ⟨k, h2, by exact_mod_cast e2⟩
    · rintro ⟨k, h2, e2⟩
      refine Or.inr ⟨S32x512x511.rowMajor (ix3 b t k), List.mem_finRange _, ?_, ?_⟩
      · rw [Equiv.symm_apply_apply, lands, places_batch, places_track, places_cell _ _ _ _ (hc _ _ _ h2)]
        have := b.isLt
        have := t.isLt
        have := hc _ _ _ h2
        refine ⟨WordCmp.toInt_ofNat_of_lt (by omega), WordCmp.toInt_ofNat_of_lt (by omega), ?_⟩
        rw [WordCmp.toInt_eq_toNat_of_lt_half (by omega), e2]
      · rw [Equiv.symm_apply_apply, hm1]; exact h2
  rw [id_eq] at hs
  have h0 : broadcastInDim S32x512x256 ![] bcast_S_S32x512x256 (constantI S_ 32 0#32) (ix3 b t q) = 0#32 := rfl
  rw [h0] at hs
  rw [← hiff, hs]
  generalize List.finRange S32x512x511.numel = L at hf ⊢
  exact hf

end Cert.Proof.Ref

end
-- ==== Proof.Cell.lean ====
/-
  One neighbour of one track: both programs keep it exactly when its two coordinates lie in the grid, and give it the same cell.
-/
module

public import proofs.«01_k».proof.Proof.Grid
public import proofs.«01_k».proof.Proof.RefMarks
public import proofs.«01_k».proof.Proof.Values
public import Idealize.ShloMosaic.PureOps.IdealRules

@[expose] public section

noncomputable section

namespace Cert.Proof.Cell

open Cert.Proof.Grid
open Idealize.ShloMosaic

theorem zero_eq : (Scalar.ofBits .f32 0x00000000#32 : Ideal .f32) = (0 : EReal) := Consts.bits_zero
theorem eight_eq : (Scalar.ofBits .f32 0x41000000#32 : Ideal .f32) = ((8 : ℝ) : EReal) := Consts.bits_eight
theorem sixteen_eq : (Scalar.ofBits .f32 0x41800000#32 : Ideal .f32) = ((16 : ℝ) : EReal) := Consts.bits_sixteen
theorem side_eq : (Scalar.ofBits .f32 0x3F19999A#32 : Ideal .f32) = side := Consts.bits_side
/-- The named constant stands for the inverse of the side of a cell. -/
theorem inv_eq : (Values.inv : Ideal .f32) = perUnit :=
  IdealRules.named_const.ideal_named_scalar Cert.KernelIdeal.κ "inv_cell" _ _ rfl

/-- The reference's test of one coordinate. -/
theorem outside_iff (g : Ideal .f32) : Ref.outside g = 0#1 ↔ Within g := by
  unfold Ref.outside Within
  rw [zero_eq, sixteen_eq]
  show IntOp.ori (BitVec.ofBool (decide ((g : EReal) < 0))) (BitVec.ofBool (decide (((16 : ℝ) : EReal) ≤ g))) = 0#1 ↔ _
  by_cases h0 : (g : EReal) < 0 <;> by_cases h1 : ((16 : ℝ) : EReal) ≤ g <;>
    simp [h0, h1, not_lt.mp, not_le, IntOp.ori, not_le.mp, not_le.mpr, not_lt.mpr]

/-- A bitwise or of two words below 2³¹ is below 16, as a signed word, exactly when both are. -/
theorem or_small (a b : Nat) (ha : a < 2 ^ 31) (hb : b < 2 ^ 31) :
    IntOp.cmpi .slt (IntOp.ori (BitVec.ofNat 32 a) (BitVec.ofNat 32 b)) 16#32 = 1#1 ↔ a < 16 ∧ b < 16 := by
  have ho : (BitVec.ofNat 32 a ||| BitVec.ofNat 32 b).toNat = a ||| b := by
    rw [BitVec.toNat_or, BitVec.toNat_ofNat, BitVec.toNat_ofNat, Nat.mod_eq_of_lt (by omega), Nat.mod_eq_of_lt (by omega)]
  have hl : a ||| b < 2 ^ 31 := Nat.or_lt_two_pow ha hb
  have hs : IntOp.cmpi .slt (IntOp.ori (BitVec.ofNat 32 a) (BitVec.ofNat 32 b)) 16#32 = 1#1 ↔ a ||| b < 16 := by
    show BitVec.ofBool (BitVec.slt (BitVec.ofNat 32 a ||| BitVec.ofNat 32 b) 16#32) = 1#1 ↔ _
    have : BitVec.slt (BitVec.ofNat 32 a ||| BitVec.ofNat 32 b) 16#32 = decide (a ||| b < 16) := by
      rw [BitVec.slt_eq_decide, BitVec.toInt_eq_toNat_of_lt (by rw [ho]; omega), ho]
      have h16 : (16#32).toInt = ((16 : ℕ) : ℤ) := by decide
      rw [h16]
      exact decide_eq_decide.mpr Int.ofNat_lt
    rw [this]
    by_cases h : a ||| b < 16 <;> simp [h]
  rw [hs]
  constructor
  · intro h
    exact ⟨lt_of_le_of_lt Nat.left_le_or h, lt_of_le_of_lt Nat.right_le_or h⟩
  · rintro ⟨h1, h2⟩
    exact Nat.or_lt_two_pow (n := 4) h1 h2

/-- The kernel's test of both coordinates. -/
theorem range_iff (gx gy : Ideal .f32) :
    (FloatOps.cmpf .oge (FloatOps.minimumf gx gy) (Scalar.ofBits .f32 0x00000000#32) = 1#1 ∧
      IntOp.cmpi .slt (IntOp.ori (FloatOps.fptosi 32 gx) (FloatOps.fptosi 32 gy)) 16#32 = 1#1) ↔ Within gx ∧ Within gy := by
  rw [zero_eq]
  have h1 : FloatOps.cmpf .oge (FloatOps.minimumf gx gy) ((0 : EReal) : Ideal .f32) = 1#1 ↔ (0 : EReal) ≤ gx ∧ (0 : EReal) ≤ gy := by
    show BitVec.ofBool (decide ((0 : EReal) ≤ min (gx : EReal) gy)) = 1#1 ↔ _
    rw [← le_min_iff]
    by_cases h : (0 : EReal) ≤ min (gx : EReal) gy <;> simp only [h] <;> decide
  rw [h1]
  have split : ∀ g : EReal, 0 ≤ g → ∃ n, n < 2 ^ 31 ∧ Ideal.fptosi 32 g = BitVec.ofNat 32 n ∧ (n < 16 ↔ Within g) := by
    intro g h0
    by_cases h : g < ((16 : ℝ) : EReal)
    · obtain ⟨n, hn, e, _⟩ := fptosi_within g ⟨h0, h⟩
      exact ⟨n, by omega, e, fun _ => ⟨h0, h⟩, fun _ => hn⟩
    · obtain ⟨n, h16, hn, e⟩ := fptosi_past g h0 h
      exact ⟨n, hn, e, fun hh => absurd hh (by omega), fun hh => absurd hh.2 h⟩
  constructor
  · rintro ⟨⟨hx, hy⟩, h⟩
    obtain ⟨a, ha, ea, wa⟩ := split gx hx
    obtain ⟨b, hb, eb, wb⟩ := split gy hy
    change IntOp.cmpi .slt (IntOp.ori (Ideal.fptosi 32 gx) (Ideal.fptosi 32 gy)) 16#32 = 1#1 at h
    rw [ea, eb, or_small a b ha hb] at h
    exact ⟨wa.mp h.1, wb.mp h.2⟩
  · rintro ⟨hx, hy⟩
    obtain ⟨a, ha, ea, wa⟩ := split gx hx.1
    obtain ⟨b, hb, eb, wb⟩ := split gy hy.1
    refine ⟨⟨hx.1, hy.1⟩, ?_⟩
    show IntOp.cmpi .slt (IntOp.ori (Ideal.fptosi 32 gx) (Ideal.fptosi 32 gy)) 16#32 = 1#1
    rw [ea, eb, or_small a b ha hb]
    exact ⟨wa.mpr hx, wb.mpr hy⟩

/-- The number of the cell that two coordinates fall in. -/
def cellAt (gx gy : EReal) : Nat := (Ideal.fptosi 32 gx).toNat * 16 + (Ideal.fptosi 32 gy).toNat

/-- The kernel's cell, within the grid. -/
theorem kernel_cell (gx gy : Ideal .f32) (hx : Within gx) (hy : Within gy) :
    (IntOp.andi (IntOp.addi (IntOp.muli (FloatOps.fptosi 32 gx) 16#32) (FloatOps.fptosi 32 gy)) 255#32).toNat = cellAt gx gy := by
  obtain ⟨a, ha, ea, _⟩ := fptosi_within gx hx
  obtain ⟨b, hb, eb, _⟩ := fptosi_within gy hy
  show (IntOp.andi (IntOp.addi (IntOp.muli (Ideal.fptosi 32 gx) 16#32) (Ideal.fptosi 32 gy)) 255#32).toNat = _
  unfold cellAt
  rw [ea, eb]
  clear ea eb hx hy
  show ((BitVec.ofNat 32 a * 16#32 + BitVec.ofNat 32 b) &&& 255#32).toNat = _
  rw [BitVec.toNat_and, BitVec.toNat_add, BitVec.toNat_mul]
  simp only [BitVec.toNat_ofNat]
  rw [show (255 % 2 ^ 32 : Nat) = 2 ^ 8 - 1 from rfl, Nat.and_two_pow_sub_one_eq_mod]
  omega

/-- The reference's cell, within the grid. -/
theorem reference_cell (gx gy : Ideal .f32) (hx : Within gx) (hy : Within gy) :
    (IntOp.addi (IntOp.muli (FloatOps.fptosi 32 (FloatOps.hostUnary .floor gx)) 16#32) (FloatOps.fptosi 32 (FloatOps.hostUnary .floor gy))).toNat = cellAt gx gy := by
  obtain ⟨a, ha, ea, fa⟩ := fptosi_within gx hx
  obtain ⟨b, hb, eb, fb⟩ := fptosi_within gy hy
  show (IntOp.addi (IntOp.muli (Ideal.fptosi 32 (Ideal.liftRound Int.floor gx)) 16#32) (Ideal.fptosi 32 (Ideal.liftRound Int.floor gy))).toNat = _
  unfold cellAt
  rw [ea, eb, fa, fb]
  clear ea eb fa fb hx hy
  show (BitVec.ofNat 32 a * 16#32 + BitVec.ofNat 32 b).toNat = _
  rw [BitVec.toNat_add, BitVec.toNat_mul]
  simp only [BitVec.toNat_ofNat]
  omega

theorem cellAt_lt (gx gy : EReal) (hx : Within gx) (hy : Within gy) : cellAt gx gy < 256 := by
  obtain ⟨a, ha, ea, _⟩ := fptosi_within gx hx
  obtain ⟨b, hb, eb, _⟩ := fptosi_within gy hy
  unfold cellAt
  rw [ea, eb, BitVec.toNat_ofNat, BitVec.toNat_ofNat]
  omega

end Cert.Proof.Cell

end
-- ==== Proof.Hits.lean ====
/-
  Which cells of a track's grid are marked, said once for both programs; the kernel's tile marks exactly those.
-/
module

public import proofs.«01_k».proof.Proof.Cell
public import Idealize.ShloMosaic.Lib.Pointwise

@[expose] public section

noncomputable section

namespace Cert.Proof.Hits

open Cert.Proof.Grid Cert.Proof.Cell Cert.Proof.Values Cert.Proof.Trip
open Cert.KernelIdeal Cert.KernelIdeal.Gen
open Idealize.ShloMosaic

/-- A coordinate `a` seen from a track at `c`, in cells, the track in the middle of its grid. -/
def seen (a c : EReal) : EReal := Ideal.div (a - c) side + ((8 : ℝ) : EReal)

/-- Some other track of the batch falls in cell `q` of track `t`'s grid. -/
def Marked (X Y : Fin 512 → EReal) (t : Fin 512) (q : Nat) : Prop :=
  ∃ j, j ≠ t ∧ Within (seen (X j) (X t)) ∧ Within (seen (Y j) (Y t)) ∧ cellAt (seen (X j) (X t)) (seen (Y j) (Y t)) = q

variable (X Y : Vec Ideal S512 .f32)

/-- The track that lane `l` of group `j` is. -/
def trackOf (j : Fin 32) (l : Fin 16) : Fin 512 := ⟨16 * j.val + l.val, by omega⟩

/-- A lane's relative position, in cells. -/
theorem lane_seen (t : Fin 512) (j : Fin 32) (l : Fin 16) :
    subf (lanes (scaled X) j) (centre (scaled X) t) (ix1 l) = seen (X (ix (trackOf j l))) (X (ix t)) := by
  show (X (ix (trackOf j l)) : EReal) * (Values.inv : Ideal .f32) - ((X (ix t) : EReal) * (Values.inv : Ideal .f32) - (Scalar.ofBits .f32 0x41000000#32 : Ideal .f32)) = _
  rw [inv_eq, eight_eq]
  exact place_eq _ _

/-- The lane is the track itself. -/
theorem self_iff (t : Fin 512) (j : Fin 32) (l : Fin 16) :
    IntOp.xori (IntOp.andi (Scalar.cmpi .eq (Scalar.divsi (BitVec.ofNat 32 t.val) 16#32) (BitVec.ofNat 32 j.val)) (selfLane t (ix1 l))) 1#1 = 1#1 ↔ trackOf j l ≠ t := by
  have hd : Scalar.divsi (BitVec.ofNat 32 t.val) 16#32 = BitVec.ofNat 32 (t.val / 16) := by
    revert t; decide
  have hr : Scalar.remsi (BitVec.ofNat 32 t.val) 16#32 = BitVec.ofNat 32 (t.val % 16) := by
    revert t; decide
  have hl : selfLane t (ix1 l) = Scalar.cmpi .eq (BitVec.ofNat 32 l.val) (BitVec.ofNat 32 (t.val % 16)) := by
    rw [← hr]
    unfold selfLane
    pointwise
    rfl
  rw [hl, hd]
  have ht := t.isLt
  have hj := j.isLt
  have hll := l.isLt
  have e : ∀ a b : Nat, a < 2 ^ 32 → b < 2 ^ 32 → Scalar.cmpi .eq (BitVec.ofNat 32 a) (BitVec.ofNat 32 b) = BitVec.ofBool (decide (a = b)) := by
    intro a b ha hb
    show BitVec.ofBool (BitVec.ofNat 32 a == BitVec.ofNat 32 b) = _
    congr 1
    rw [Bool.eq_iff_iff, beq_iff_eq, decide_eq_true_iff]
    constructor
    · intro h
      have := congrArg BitVec.toNat h
      rwa [BitVec.toNat_ofNat, BitVec.toNat_ofNat, Nat.mod_eq_of_lt ha, Nat.mod_eq_of_lt hb] at this
    · rintro rfl; rfl
  rw [e _ _ (by omega) (by omega), e _ _ (by omega) (by omega)]
  have hq : trackOf j l = t ↔ t.val / 16 = j.val ∧ l.val = t.val % 16 := by
    rw [Fin.ext_iff]
    show 16 * j.val + l.val = t.val ↔ _
    omega
  rw [ne_eq, hq]
  by_cases h1 : t.val / 16 = j.val <;> by_cases h2 : l.val = t.val % 16 <;> simp [h1, h2, IntOp.xori, IntOp.andi]

theorem andi_one (a b : BitVec 1) : IntOp.andi a b = 1#1 ↔ a = 1#1 ∧ b = 1#1 := by
  revert a b; decide

/-- A lane is stored exactly when it is another track inside the grid. -/
theorem kept_iff (t : Fin 512) (j : Fin 32) (l : Fin 16) : kept (scaled X) (scaled Y) t j (ix1 l) = 1#1
    ↔ (Within (seen (X (ix (trackOf j l))) (X (ix t))) ∧ Within (seen (Y (ix (trackOf j l))) (Y (ix t)))) ∧ trackOf j l ≠ t := by
  have hx := lane_seen X t j l
  have hy := lane_seen Y t j l
  unfold kept keepOf
  generalize subf (lanes (scaled X) j) (centre (scaled X) t) = TX at hx ⊢
  generalize subf (lanes (scaled Y) j) (centre (scaled Y) t) = TY at hy ⊢
  rw [← range_iff, ← self_iff, ← hx, ← hy, ← andi_one, ← andi_one]
  rfl

/-- Inside the grid, a lane's cell. -/
theorem cells_eq (t : Fin 512) (j : Fin 32) (l : Fin 16) (wx : Within (seen (X (ix (trackOf j l))) (X (ix t)))) (wy : Within (seen (Y (ix (trackOf j l))) (Y (ix t)))) :
    (cells (scaled X) (scaled Y) t j (ix1 l)).toNat = cellAt (seen (X (ix (trackOf j l))) (X (ix t))) (seen (Y (ix (trackOf j l))) (Y (ix t))) := by
  rw [← kernel_cell _ _ wx wy, ← lane_seen X t j l, ← lane_seen Y t j l]
  rfl

/-- The tile marks the cells that some other track falls in. -/
theorem hit_iff (t : Fin 512) (q : Nat) : hit (scaled X) (scaled Y) t q ↔ Marked (fun j => X (ix j)) (fun j => Y (ix j)) t q := by
  constructor
  · rintro ⟨j, l, hk, hc⟩
    obtain ⟨l, rfl⟩ : ∃ l' : Fin 16, l = ix1 l' := ⟨l 0, by funext a; match a with | 0 => rfl⟩
    obtain ⟨⟨wx, wy⟩, hne⟩ := (kept_iff X Y t j l).mp hk
    exact ⟨trackOf j l, hne, wx, wy, (cells_eq X Y t j l wx wy).symm.trans hc⟩
  · rintro ⟨n, hne, wx, wy, hc⟩
    have hn := n.isLt
    obtain ⟨j, l, rfl⟩ : ∃ (j : Fin 32) (l : Fin 16), n = trackOf j l :=
      ⟨⟨n.val / 16, by omega⟩, ⟨n.val % 16, by omega⟩, Fin.ext (by show n.val = 16 * (n.val / 16) + n.val % 16; omega)⟩
    exact ⟨j, ix1 l, (kept_iff X Y t j l).mpr ⟨⟨wx, wy⟩, hne⟩, (cells_eq X Y t j l wx wy).trans hc⟩

end Cert.Proof.Hits

end
-- ==== Proof.RefOcc.lean ====
/-
  The reference's occupancy at one word: one if some other track of the batch falls in that cell, zero else.
-/
module

public import proofs.«01_k».proof.Proof.Hits

@[expose] public section

noncomputable section

namespace Cert.Proof.Ref

open Cert.Proof.Grid Cert.Proof.Cell Cert.Proof.Hits
open Cert.ReferenceIdeal Cert.ReferenceIdeal.Gen Cert.ReferenceIdeal.Value
open Idealize.ShloMosaic

variable (P : Vec Ideal S32x512x2 .f32)

theorem inGrid_seen (b : Fin 32) (t : Fin 512) (k : Fin 511) (c : Fin 2) :
    inGrid P (ix4 b t k c) = seen (P (ix3 b (nb t k) c)) (P (ix3 b t c)) := by
  rw [inGrid_at, side_eq, eight_eq]
  rfl

theorem inside_iff (b : Fin 32) (t : Fin 512) (k : Fin 511) : inside (inGrid P) (ix3 b t k) = 1#1
    ↔ Within (seen (P (ix3 b (nb t k) 0)) (P (ix3 b t 0))) ∧ Within (seen (P (ix3 b (nb t k) 1)) (P (ix3 b t 1))) := by
  rw [inside_at, outside_iff, outside_iff, inGrid_seen, inGrid_seen]

theorem cell_seen (b : Fin 32) (t : Fin 512) (k : Fin 511) (h : inside (inGrid P) (ix3 b t k) = 1#1) :
    (cell (inGrid P) (ix3 b t k)).toNat = cellAt (seen (P (ix3 b (nb t k) 0)) (P (ix3 b t 0))) (seen (P (ix3 b (nb t k) 1)) (P (ix3 b t 1))) := by
  have hw := (inside_iff P b t k).mp h
  rw [cell_at _ _ _ _ h, inGrid_seen, inGrid_seen]
  exact reference_cell _ _ hw.1 hw.2

/-- The reference marks the cells that some other track falls in. -/
theorem marks_iff (b : Fin 32) (t : Fin 512) (q : Fin 256) : open Classical in marks (inGrid P) (ix3 b t q)
    = if Marked (fun j => P (ix3 b j 0)) (fun j => P (ix3 b j 1)) t q.val then 1#32 else 0#32 := by
  have hc : ∀ b t k, inside (inGrid P) (ix3 b t k) = 1#1 → (cell (inGrid P) (ix3 b t k)).toNat < 256 := by
    intro b t k h
    rw [cell_seen P b t k h]
    exact cellAt_lt _ _ ((inside_iff P b t k).mp h).1 ((inside_iff P b t k).mp h).2
  have hm := marks_at (inGrid P) b t q hc
  have e : (∃ k, inside (inGrid P) (ix3 b t k) = 1#1 ∧ (cell (inGrid P) (ix3 b t k)).toNat = q.val)
      ↔ Marked (fun j => P (ix3 b j 0)) (fun j => P (ix3 b j 1)) t q.val := by
    constructor
    · rintro ⟨k, h, hq⟩
      rw [cell_seen P b t k h] at hq
      obtain ⟨wx, wy⟩ := (inside_iff P b t k).mp h
      exact ⟨nb t k, nb_ne t k, wx, wy, hq⟩
    · rintro ⟨j, hj, wx, wy, hq⟩
      obtain ⟨k, rfl⟩ := nb_surj t j hj
      have h := (inside_iff P b t k).mpr ⟨wx, wy⟩
      exact ⟨k, h, (cell_seen P b t k h).trans hq⟩
  split
  · rename_i h; exact hm.1 (e.mpr h)
  · rename_i h; exact hm.2 fun h' => h (e.mp h')

/-- Row `512 b + t` of the occupancy. -/
theorem occ_at (A : Vec Ideal S32x512x2 .f32) (b : Fin 32) (t : Fin 512) (q : Fin 256) : open Classical in
    occ A (ix2 ⟨512 * b.val + t.val, by omega⟩ q)
    = if Marked (fun j => placed A (ix3 b j 0)) (fun j => placed A (ix3 b j 1)) t q.val then ((1 : ℝ) : EReal) else (0 : EReal) := by
  have h : occ A (ix2 ⟨512 * b.val + t.val, by omega⟩ q) = (FloatOps.sitofp .f32 (marks (inGrid (placed A)) (ix3 b t q)) : Ideal .f32) := by
    unfold occ
    pointwise
  rw [h, marks_iff]
  split
  · show (((1#32).toInt : ℝ) : EReal) = _
    norm_num
  · show (((0#32).toInt : ℝ) : EReal) = _
    norm_num

end Cert.Proof.Ref

end
-- ==== Proof.Equation.lean ====
/-
  The equation: over the extended reals the kernel's result is the reference's, and both programs run to it.
-/
module

public import proofs.«01_k».proof.Proof.Arrays
public import proofs.«01_k».proof.Proof.Linear
public import proofs.«01_k».proof.Proof.RefOcc
public import proofs.«01_k».proof.Proof.RefFrame

@[expose] public section

noncomputable section

namespace Cert.Proof.Equation

open Cert.KernelIdeal Cert.KernelIdeal.Gen
open Cert.Proof.Run Cert.Proof.Hits Cert.Proof.Values
open Idealize.ShloMosaic Idealize.ShloMosaic.TcCoe
open Idealize.SL Idealize.SL.Sem

variable (m : (ℓ : Loc nD τ sig) → Buf (Elt Ideal) ℓ)

/-- Word `n` of tile `w`'s coordinates. -/
theorem rowX_at (g : Vec Ideal S16384 .f32) (w : Fin 32) (n : Fin 512) : rowX g w (ix n) = g (ix1 ⟨512 * w.val + n.val, by omega⟩) := by
  unfold rowX
  refine congrArg g ?_
  funext a
  match a with
  | 0 => rfl

/-- The kernel's occupancy at one word. -/
theorem occV_at (d : Dev nD) (b : Fin 32) (t : Fin 512) (q : Fin 256) : open Classical in
    occV (gx m d) (gy m d) (ix2 ⟨512 * b.val + t.val, by omega⟩ q)
    = if Marked (fun j => Ref.placed (argP m d) (ix3 b j 0)) (fun j => Ref.placed (argP m d) (ix3 b j 1)) t q.val then ((1 : ℝ) : EReal) else (0 : EReal) := by
  have hb : (⟨(512 * b.val + t.val) / 512, by omega⟩ : Fin 32) = b := Fin.ext (by show (512 * b.val + t.val) / 512 = b.val; omega)
  have ht : (⟨(512 * b.val + t.val) % 512, Nat.mod_lt _ (by decide)⟩ : Fin 512) = t := Fin.ext (by show (512 * b.val + t.val) % 512 = t.val; omega)
  unfold occV
  have hrow : (⟨((ix2 (⟨512 * b.val + t.val, by omega⟩ : Fin 16384) q : S16384x256.Idx) 0).val / 512, by
      show (512 * b.val + t.val) / 512 < 32; omega⟩ : Fin 32) = b := hb
  have htrk : (⟨((ix2 (⟨512 * b.val + t.val, by omega⟩ : Fin 16384) q : S16384x256.Idx) 0).val % 512, Nat.mod_lt _ (by decide)⟩ : Fin 512) = t := ht
  rw [hrow, htrk]
  have hx : (fun j => rowX (gx m d) b (ix j)) = fun j => Ref.placed (argP m d) (ix3 b j 0) := funext fun j => (rowX_at _ b j).trans (gx_at m d b j)
  have hy : (fun j => rowX (gy m d) b (ix j)) = fun j => Ref.placed (argP m d) (ix3 b j 1) := funext fun j => (rowX_at _ b j).trans (gy_at m d b j)
  have h := hit_iff (rowX (gx m d) b) (rowX (gy m d) b) t q.val
  rw [hx, hy] at h
  classical
  exact if_congr h Consts.bits_one Consts.bits_zero

/-- The two occupancies are the same array. -/
theorem occ_eq (d : Dev nD) : occV (gx m d) (gy m d) = Ref.occ (argP m d) := by
  funext i
  obtain ⟨b, t, q, rfl⟩ : ∃ (b : Fin 32) (t : Fin 512) (q : Fin 256), i = ix2 ⟨512 * b.val + t.val, by omega⟩ q := by
    have hi : (i 0).val < 16384 := (i 0).isLt
    refine ⟨⟨(i 0).val / 512, by omega⟩, ⟨(i 0).val % 512, by omega⟩, i 1, ?_⟩
    funext a
    match a with
    | 0 => exact Fin.ext (Nat.div_add_mod _ _).symm
    | 1 => rfl
  rw [occV_at, Ref.occ_at]

/-- The two results are the same array. -/
theorem out_eq (d : Dev nD) : outV m d = Ref.layer (Ref.occ (argP m d)) (argW m d) (argB m d) := by
  unfold outV
  rw [V3_occ, V3_weights, V3_bias, occ_eq]
  funext i
  obtain ⟨r, c, rfl⟩ : ∃ (r : Fin 16384) (c : Fin 128), i = ix2 r c := by
    refine ⟨i 0, i 1, ?_⟩
    funext a
    match a with
    | 0 => rfl
    | 1 => rfl
  rw [Linear.linV_at, Linear.layer_at]

/-- From memories with the same arguments both programs run, leave their arguments, and end with the same result. -/
theorem algebraic : Cert.algebraic_KernelIdeal_ReferenceIdeal := by
  intro m g m' g' _ hargs
  refine ⟨fun c => outV m c, (θ_run Cert.KernelIdeal.defs _ _).mono (fun _ h c => h.1 c) (run_args (F := Ideal) m g),
    (θ_run Cert.ReferenceIdeal.defs _ _).mono (fun _ h c => ⟨?_, (h c).2⟩) (Cert.ReferenceIdeal.Value.run (F := Ideal) m' g')⟩
  obtain ⟨-, -, hP, hW, hB⟩ := hargs c
  rw [(h c).1, Ref.res_eq, hP, hW, hB]
  exact (out_eq m c).symm

end Cert.Proof.Equation

end
-- ==== Proof.lean ====
/-
  The claims, from their proofs: the printed and the idealized program run and leave their arguments (Proof/Frames.lean), so
  does the reference (Proof/RefFrame.lean), the named constant's sites (Proof/Frames.lean), and over the extended reals the
  idealized program's result is the reference's (Proof/Equation.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Equation

@[expose] public section

noncomputable section

namespace Cert.Proof

/-- Everything claimed. -/
theorem claim : Cert.Claim := ⟨Cert.Kernel.Gen.facts, Cert.KernelIdeal.Gen.facts, Cert.ReferenceIdeal.Gen.facts,
  Run.frame_printed, Run.frame_ideal, Ref.frame_reference, Run.constants, Equation.algebraic⟩

end Cert.Proof

end
